-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 128]⟩ ⟨2, ![4096, 4096]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![128, 2048]⟩ ⟨2, ![4096, 2048]⟩ 0 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x128 : Shape := ⟨2, ![4096, 128]⟩
abbrev S128x2048 : Shape := ⟨2, ![128, 2048]⟩
abbrev S1 : Shape := ⟨1, ![1]⟩
abbrev S4096x2048 : Shape := ⟨2, ![4096, 2048]⟩
abbrev S2x128x2048 : Shape := ⟨3, ![2, 128, 2048]⟩
abbrev S2 : Shape := ⟨1, ![2]⟩
abbrev S_ : Shape := ⟨0, ![]⟩
abbrev S128x128 : Shape := ⟨2, ![128, 128]⟩
abbrev S1x128x2048 : Shape := ⟨3, ![1, 128, 2048]⟩

abbrev nBuf : Space → Nat
  | .hbm => 5
  | .vmem => 6
  | .smem => 2
  | _ => 0

abbrev bufTy : (tb : Table) → Fin (tcTables nBuf tb) → BufTy
  | .hbm, ⟨0, _⟩ => ⟨S4096x128, .fp8e5m2⟩
  | .hbm, ⟨1, _⟩ => ⟨S128x2048, .fp8e5m2⟩
  | .hbm, ⟨2, _⟩ => ⟨S1, .f32⟩
  | .hbm, ⟨3, _⟩ => ⟨S1, .f32⟩
  | .hbm, ⟨4, _⟩ => ⟨S4096x2048, .f32⟩
  | .local _ .vmem, ⟨0, _⟩ => ⟨S4096x128, .fp8e5m2⟩
  | .local _ .vmem, ⟨1, _⟩ => ⟨S128x2048, .fp8e5m2⟩
  | .local _ .vmem, ⟨2, _⟩ => ⟨S4096x2048, .f32⟩
  | .local _ .vmem, ⟨3, _⟩ => ⟨S4096x128, .bf16⟩
  | .local _ .vmem, ⟨4, _⟩ => ⟨S128x2048, .bf16⟩
  | .local _ .vmem, ⟨5, _⟩ => ⟨S2x128x2048, .f32⟩
  | .local _ .smem, ⟨0, _⟩ => ⟨S1, .f32⟩
  | .local _ .smem, ⟨1, _⟩ => ⟨S1, .f32⟩
  | _, _ => ⟨S4096x128, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | _, _ => false

abbrev semScoped : Fin 2 → Bool
  | ⟨0, _⟩ => true
  | ⟨1, _⟩ => false
  | _ => false

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  (ofTc nBuf bufTy 2 9 bufScoped semScoped dmaSemScoped tileCredit tileCredit_eq_zero tileCredit_pos).withBarriers [(0, 1)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 1

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_8 : BitVec 32 := 1#32
  let v11 : BitVec 32 := Scalar.muli v7 c1_i32_8
  let v12 : BitVec 32 := Scalar.addi c0_i32_9 v11
  v12.toNat
def k0_off1 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v28 : BitVec 32 := Scalar.muli v2 c128_i32
  let v29 : Index := Scalar.indexCast v28
  let c0_19 : Index := 0#32
  ![v29.toNat, 0]
def k0_dev3 (d0 : Dev nD) : Nat :=
  let c0_i32_27 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_26 : BitVec 32 := 1#32
  let v36 : BitVec 32 := Scalar.muli v5 c1_i32_26
  let v37 : BitVec 32 := Scalar.addi c0_i32_27 v36
  v37.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_34 : BitVec 32 := 1#32
  let v38 : BitVec 32 := Scalar.muli v7 c1_i32_34
  let v39 : BitVec 32 := Scalar.addi c0_i32_35 v38
  v39.toNat
def k0_off2 (d0 : Dev nD) (c0_i32_60 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c64_i32 : BitVec 32 := 64#32
  let v62 : BitVec 32 := Scalar.addi v2 c64_i32
  let c1_i32_59 : BitVec 32 := 1#32
  let v63 : BitVec 32 := Scalar.subi v62 c1_i32_59
  let v64 : BitVec 32 := Scalar.subi v63 c0_i32_60
  let c32_i32_61 : BitVec 32 := 32#32
  let v65 : BitVec 32 := Scalar.remsi v64 c32_i32_61
  let c128_i32_64 : BitVec 32 := 128#32
  let v68 : BitVec 32 := Scalar.muli v65 c128_i32_64
  let v69 : Index := Scalar.indexCast v68
  let c0_65 : Index := 0#32
  ![v69.toNat, 0]
def k0_dev5 (d0 : Dev nD) : Nat :=
  let c0_i32_74 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_73 : BitVec 32 := 1#32
  let v77 : BitVec 32 := Scalar.muli v5 c1_i32_73
  let v78 : BitVec 32 := Scalar.addi c0_i32_74 v77
  v78.toNat
def k0_dev6 (d0 : Dev nD) : Nat :=
  let c0_i32_82 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_81 : BitVec 32 := 1#32
  let v79 : BitVec 32 := Scalar.muli v7 c1_i32_81
  let v80 : BitVec 32 := Scalar.addi c0_i32_82 v79
  v80.toNat
def k0_dev7 (d0 : Dev nD) : Nat :=
  let c0_i32_123 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_122 : BitVec 32 := 1#32
  let v118 : BitVec 32 := Scalar.muli v5 c1_i32_122
  let v119 : BitVec 32 := Scalar.addi c0_i32_123 v118
  v119.toNat
def k0_dev8 (d0 : Dev nD) : Nat :=
  let c0_i32_131 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_130 : BitVec 32 := 1#32
  let v120 : BitVec 32 := Scalar.muli v7 c1_i32_130
  let v121 : BitVec 32 := Scalar.addi c0_i32_131 v120
  v121.toNat
def k0_dev9 (d0 : Dev nD) : Nat :=
  let c0_i32_172 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_171 : BitVec 32 := 1#32
  let v159 : BitVec 32 := Scalar.muli v5 c1_i32_171
  let v160 : BitVec 32 := Scalar.addi c0_i32_172 v159
  v160.toNat
def k0_dev10 (d0 : Dev nD) : Nat :=
  let c0_i32_180 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_179 : BitVec 32 := 1#32
  let v161 : BitVec 32 := Scalar.muli v7 c1_i32_179
  let v162 : BitVec 32 := Scalar.addi c0_i32_180 v161
  v162.toNat
def k0_dev11 (d0 : Dev nD) : Nat :=
  let c0_i32_220 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_219 : BitVec 32 := 1#32
  let v200 : BitVec 32 := Scalar.muli v5 c1_i32_219
  let v201 : BitVec 32 := Scalar.addi c0_i32_220 v200
  v201.toNat
def k0_dev12 (d0 : Dev nD) : Nat :=
  let c0_i32_228 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_227 : BitVec 32 := 1#32
  let v202 : BitVec 32 := Scalar.muli v7 c1_i32_227
  let v203 : BitVec 32 := Scalar.addi c0_i32_228 v202
  v203.toNat
def k0_dev13 (d0 : Dev nD) : Nat :=
  let c0_i32_268 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_267 : BitVec 32 := 1#32
  let v241 : BitVec 32 := Scalar.muli v5 c1_i32_267
  let v242 : BitVec 32 := Scalar.addi c0_i32_268 v241
  v242.toNat
def k0_dev14 (d0 : Dev nD) : Nat :=
  let c0_i32_276 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_275 : BitVec 32 := 1#32
  let v243 : BitVec 32 := Scalar.muli v7 c1_i32_275
  let v244 : BitVec 32 := Scalar.addi c0_i32_276 v243
  v244.toNat
def k0_dev15 (d0 : Dev nD) : Nat :=
  let c0_i32_316 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_315 : BitVec 32 := 1#32
  let v282 : BitVec 32 := Scalar.muli v5 c1_i32_315
  let v283 : BitVec 32 := Scalar.addi c0_i32_316 v282
  v283.toNat
def k0_dev16 (d0 : Dev nD) : Nat :=
  let c0_i32_324 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_323 : BitVec 32 := 1#32
  let v284 : BitVec 32 := Scalar.muli v7 c1_i32_323
  let v285 : BitVec 32 := Scalar.addi c0_i32_324 v284
  v285.toNat
def k0_dev17 (d0 : Dev nD) : Nat :=
  let c0_i32_364 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_363 : BitVec 32 := 1#32
  let v323 : BitVec 32 := Scalar.muli v5 c1_i32_363
  let v324 : BitVec 32 := Scalar.addi c0_i32_364 v323
  v324.toNat
def k0_dev18 (d0 : Dev nD) : Nat :=
  let c0_i32_372 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_371 : BitVec 32 := 1#32
  let v325 : BitVec 32 := Scalar.muli v7 c1_i32_371
  let v326 : BitVec 32 := Scalar.addi c0_i32_372 v325
  v326.toNat
def k0_dev19 (d0 : Dev nD) : Nat :=
  let c0_i32_412 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_411 : BitVec 32 := 1#32
  let v364 : BitVec 32 := Scalar.muli v5 c1_i32_411
  let v365 : BitVec 32 := Scalar.addi c0_i32_412 v364
  v365.toNat
def k0_dev20 (d0 : Dev nD) : Nat :=
  let c0_i32_420 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_419 : BitVec 32 := 1#32
  let v366 : BitVec 32 := Scalar.muli v7 c1_i32_419
  let v367 : BitVec 32 := Scalar.addi c0_i32_420 v366
  v367.toNat
def k0_dev21 (d0 : Dev nD) : Nat :=
  let c0_i32_460 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_459 : BitVec 32 := 1#32
  let v405 : BitVec 32 := Scalar.muli v5 c1_i32_459
  let v406 : BitVec 32 := Scalar.addi c0_i32_460 v405
  v406.toNat
def k0_dev22 (d0 : Dev nD) : Nat :=
  let c0_i32_468 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_467 : BitVec 32 := 1#32
  let v407 : BitVec 32 := Scalar.muli v7 c1_i32_467
  let v408 : BitVec 32 := Scalar.addi c0_i32_468 v407
  v408.toNat
def k0_dev23 (d0 : Dev nD) : Nat :=
  let c0_i32_508 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_507 : BitVec 32 := 1#32
  let v446 : BitVec 32 := Scalar.muli v5 c1_i32_507
  let v447 : BitVec 32 := Scalar.addi c0_i32_508 v446
  v447.toNat
def k0_dev24 (d0 : Dev nD) : Nat :=
  let c0_i32_516 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_515 : BitVec 32 := 1#32
  let v448 : BitVec 32 := Scalar.muli v7 c1_i32_515
  let v449 : BitVec 32 := Scalar.addi c0_i32_516 v448
  v449.toNat
def k0_dev25 (d0 : Dev nD) : Nat :=
  let c0_i32_556 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_555 : BitVec 32 := 1#32
  let v487 : BitVec 32 := Scalar.muli v5 c1_i32_555
  let v488 : BitVec 32 := Scalar.addi c0_i32_556 v487
  v488.toNat
def k0_dev26 (d0 : Dev nD) : Nat :=
  let c0_i32_564 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_563 : BitVec 32 := 1#32
  let v489 : BitVec 32 := Scalar.muli v7 c1_i32_563
  let v490 : BitVec 32 := Scalar.addi c0_i32_564 v489
  v490.toNat
def k0_dev27 (d0 : Dev nD) : Nat :=
  let c0_i32_604 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_603 : BitVec 32 := 1#32
  let v528 : BitVec 32 := Scalar.muli v5 c1_i32_603
  let v529 : BitVec 32 := Scalar.addi c0_i32_604 v528
  v529.toNat
def k0_dev28 (d0 : Dev nD) : Nat :=
  let c0_i32_612 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_611 : BitVec 32 := 1#32
  let v530 : BitVec 32 := Scalar.muli v7 c1_i32_611
  let v531 : BitVec 32 := Scalar.addi c0_i32_612 v530
  v531.toNat
def k0_dev29 (d0 : Dev nD) : Nat :=
  let c0_i32_652 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_651 : BitVec 32 := 1#32
  let v569 : BitVec 32 := Scalar.muli v5 c1_i32_651
  let v570 : BitVec 32 := Scalar.addi c0_i32_652 v569
  v570.toNat
def k0_dev30 (d0 : Dev nD) : Nat :=
  let c0_i32_660 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_659 : BitVec 32 := 1#32
  let v571 : BitVec 32 := Scalar.muli v7 c1_i32_659
  let v572 : BitVec 32 := Scalar.addi c0_i32_660 v571
  v572.toNat
def k0_dev31 (d0 : Dev nD) : Nat :=
  let c0_i32_700 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_699 : BitVec 32 := 1#32
  let v610 : BitVec 32 := Scalar.muli v5 c1_i32_699
  let v611 : BitVec 32 := Scalar.addi c0_i32_700 v610
  v611.toNat
def k0_dev32 (d0 : Dev nD) : Nat :=
  let c0_i32_708 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_707 : BitVec 32 := 1#32
  let v612 : BitVec 32 := Scalar.muli v7 c1_i32_707
  let v613 : BitVec 32 := Scalar.addi c0_i32_708 v612
  v613.toNat
def k0_dev33 (d0 : Dev nD) : Nat :=
  let c0_i32_748 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_747 : BitVec 32 := 1#32
  let v651 : BitVec 32 := Scalar.muli v5 c1_i32_747
  let v652 : BitVec 32 := Scalar.addi c0_i32_748 v651
  v652.toNat
def k0_dev34 (d0 : Dev nD) : Nat :=
  let c0_i32_756 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_755 : BitVec 32 := 1#32
  let v653 : BitVec 32 := Scalar.muli v7 c1_i32_755
  let v654 : BitVec 32 := Scalar.addi c0_i32_756 v653
  v654.toNat
def k0_dev35 (d0 : Dev nD) : Nat :=
  let c0_i32_796 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_795 : BitVec 32 := 1#32
  let v692 : BitVec 32 := Scalar.muli v5 c1_i32_795
  let v693 : BitVec 32 := Scalar.addi c0_i32_796 v692
  v693.toNat
def k0_dev36 (d0 : Dev nD) : Nat :=
  let c0_i32_804 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_803 : BitVec 32 := 1#32
  let v694 : BitVec 32 := Scalar.muli v7 c1_i32_803
  let v695 : BitVec 32 := Scalar.addi c0_i32_804 v694
  v695.toNat
def k0_dev37 (d0 : Dev nD) : Nat :=
  let c0_i32_844 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_843 : BitVec 32 := 1#32
  let v733 : BitVec 32 := Scalar.muli v5 c1_i32_843
  let v734 : BitVec 32 := Scalar.addi c0_i32_844 v733
  v734.toNat
def k0_dev38 (d0 : Dev nD) : Nat :=
  let c0_i32_852 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_851 : BitVec 32 := 1#32
  let v735 : BitVec 32 := Scalar.muli v7 c1_i32_851
  let v736 : BitVec 32 := Scalar.addi c0_i32_852 v735
  v736.toNat
def k0_dev39 (d0 : Dev nD) : Nat :=
  let c0_i32_892 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_891 : BitVec 32 := 1#32
  let v774 : BitVec 32 := Scalar.muli v5 c1_i32_891
  let v775 : BitVec 32 := Scalar.addi c0_i32_892 v774
  v775.toNat
def k0_dev40 (d0 : Dev nD) : Nat :=
  let c0_i32_900 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_899 : BitVec 32 := 1#32
  let v776 : BitVec 32 := Scalar.muli v7 c1_i32_899
  let v777 : BitVec 32 := Scalar.addi c0_i32_900 v776
  v777.toNat
def k0_dev41 (d0 : Dev nD) : Nat :=
  let c0_i32_940 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_939 : BitVec 32 := 1#32
  let v815 : BitVec 32 := Scalar.muli v5 c1_i32_939
  let v816 : BitVec 32 := Scalar.addi c0_i32_940 v815
  v816.toNat
def k0_dev42 (d0 : Dev nD) : Nat :=
  let c0_i32_948 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_947 : BitVec 32 := 1#32
  let v817 : BitVec 32 := Scalar.muli v7 c1_i32_947
  let v818 : BitVec 32 := Scalar.addi c0_i32_948 v817
  v818.toNat
def k0_dev43 (d0 : Dev nD) : Nat :=
  let c0_i32_988 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_987 : BitVec 32 := 1#32
  let v856 : BitVec 32 := Scalar.muli v5 c1_i32_987
  let v857 : BitVec 32 := Scalar.addi c0_i32_988 v856
  v857.toNat
def k0_dev44 (d0 : Dev nD) : Nat :=
  let c0_i32_996 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_995 : BitVec 32 := 1#32
  let v858 : BitVec 32 := Scalar.muli v7 c1_i32_995
  let v859 : BitVec 32 := Scalar.addi c0_i32_996 v858
  v859.toNat
def k0_dev45 (d0 : Dev nD) : Nat :=
  let c0_i32_1036 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1035 : BitVec 32 := 1#32
  let v897 : BitVec 32 := Scalar.muli v5 c1_i32_1035
  let v898 : BitVec 32 := Scalar.addi c0_i32_1036 v897
  v898.toNat
def k0_dev46 (d0 : Dev nD) : Nat :=
  let c0_i32_1044 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1043 : BitVec 32 := 1#32
  let v899 : BitVec 32 := Scalar.muli v7 c1_i32_1043
  let v900 : BitVec 32 := Scalar.addi c0_i32_1044 v899
  v900.toNat
def k0_dev47 (d0 : Dev nD) : Nat :=
  let c0_i32_1084 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1083 : BitVec 32 := 1#32
  let v938 : BitVec 32 := Scalar.muli v5 c1_i32_1083
  let v939 : BitVec 32 := Scalar.addi c0_i32_1084 v938
  v939.toNat
def k0_dev48 (d0 : Dev nD) : Nat :=
  let c0_i32_1092 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1091 : BitVec 32 := 1#32
  let v940 : BitVec 32 := Scalar.muli v7 c1_i32_1091
  let v941 : BitVec 32 := Scalar.addi c0_i32_1092 v940
  v941.toNat
def k0_dev49 (d0 : Dev nD) : Nat :=
  let c0_i32_1132 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1131 : BitVec 32 := 1#32
  let v979 : BitVec 32 := Scalar.muli v5 c1_i32_1131
  let v980 : BitVec 32 := Scalar.addi c0_i32_1132 v979
  v980.toNat
def k0_dev50 (d0 : Dev nD) : Nat :=
  let c0_i32_1140 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1139 : BitVec 32 := 1#32
  let v981 : BitVec 32 := Scalar.muli v7 c1_i32_1139
  let v982 : BitVec 32 := Scalar.addi c0_i32_1140 v981
  v982.toNat
def k0_dev51 (d0 : Dev nD) : Nat :=
  let c0_i32_1180 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1179 : BitVec 32 := 1#32
  let v1020 : BitVec 32 := Scalar.muli v5 c1_i32_1179
  let v1021 : BitVec 32 := Scalar.addi c0_i32_1180 v1020
  v1021.toNat
def k0_dev52 (d0 : Dev nD) : Nat :=
  let c0_i32_1188 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1187 : BitVec 32 := 1#32
  let v1022 : BitVec 32 := Scalar.muli v7 c1_i32_1187
  let v1023 : BitVec 32 := Scalar.addi c0_i32_1188 v1022
  v1023.toNat
def k0_dev53 (d0 : Dev nD) : Nat :=
  let c0_i32_1228 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1227 : BitVec 32 := 1#32
  let v1061 : BitVec 32 := Scalar.muli v5 c1_i32_1227
  let v1062 : BitVec 32 := Scalar.addi c0_i32_1228 v1061
  v1062.toNat
def k0_dev54 (d0 : Dev nD) : Nat :=
  let c0_i32_1236 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1235 : BitVec 32 := 1#32
  let v1063 : BitVec 32 := Scalar.muli v7 c1_i32_1235
  let v1064 : BitVec 32 := Scalar.addi c0_i32_1236 v1063
  v1064.toNat
def k0_dev55 (d0 : Dev nD) : Nat :=
  let c0_i32_1276 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1275 : BitVec 32 := 1#32
  let v1102 : BitVec 32 := Scalar.muli v5 c1_i32_1275
  let v1103 : BitVec 32 := Scalar.addi c0_i32_1276 v1102
  v1103.toNat
def k0_dev56 (d0 : Dev nD) : Nat :=
  let c0_i32_1284 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1283 : BitVec 32 := 1#32
  let v1104 : BitVec 32 := Scalar.muli v7 c1_i32_1283
  let v1105 : BitVec 32 := Scalar.addi c0_i32_1284 v1104
  v1105.toNat
def k0_dev57 (d0 : Dev nD) : Nat :=
  let c0_i32_1324 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1323 : BitVec 32 := 1#32
  let v1143 : BitVec 32 := Scalar.muli v5 c1_i32_1323
  let v1144 : BitVec 32 := Scalar.addi c0_i32_1324 v1143
  v1144.toNat
def k0_dev58 (d0 : Dev nD) : Nat :=
  let c0_i32_1332 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1331 : BitVec 32 := 1#32
  let v1145 : BitVec 32 := Scalar.muli v7 c1_i32_1331
  let v1146 : BitVec 32 := Scalar.addi c0_i32_1332 v1145
  v1146.toNat
def k0_dev59 (d0 : Dev nD) : Nat :=
  let c0_i32_1372 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1371 : BitVec 32 := 1#32
  let v1184 : BitVec 32 := Scalar.muli v5 c1_i32_1371
  let v1185 : BitVec 32 := Scalar.addi c0_i32_1372 v1184
  v1185.toNat
def k0_dev60 (d0 : Dev nD) : Nat :=
  let c0_i32_1380 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1379 : BitVec 32 := 1#32
  let v1186 : BitVec 32 := Scalar.muli v7 c1_i32_1379
  let v1187 : BitVec 32 := Scalar.addi c0_i32_1380 v1186
  v1187.toNat
def k0_dev61 (d0 : Dev nD) : Nat :=
  let c0_i32_1420 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1419 : BitVec 32 := 1#32
  let v1225 : BitVec 32 := Scalar.muli v5 c1_i32_1419
  let v1226 : BitVec 32 := Scalar.addi c0_i32_1420 v1225
  v1226.toNat
def k0_dev62 (d0 : Dev nD) : Nat :=
  let c0_i32_1428 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1427 : BitVec 32 := 1#32
  let v1227 : BitVec 32 := Scalar.muli v7 c1_i32_1427
  let v1228 : BitVec 32 := Scalar.addi c0_i32_1428 v1227
  v1228.toNat
def k0_dev63 (d0 : Dev nD) : Nat :=
  let c0_i32_1468 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1467 : BitVec 32 := 1#32
  let v1266 : BitVec 32 := Scalar.muli v5 c1_i32_1467
  let v1267 : BitVec 32 := Scalar.addi c0_i32_1468 v1266
  v1267.toNat
def k0_dev64 (d0 : Dev nD) : Nat :=
  let c0_i32_1476 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1475 : BitVec 32 := 1#32
  let v1268 : BitVec 32 := Scalar.muli v7 c1_i32_1475
  let v1269 : BitVec 32 := Scalar.addi c0_i32_1476 v1268
  v1269.toNat
def k0_off3 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1514 : BitVec 32 := 1#32
  let v1307 : BitVec 32 := Scalar.addi v2 c1_i32_1514
  let c32_i32_1515 : BitVec 32 := 32#32
  let v1308 : BitVec 32 := Scalar.remsi v1307 c32_i32_1515
  let c128_i32_1519 : BitVec 32 := 128#32
  let v1313 : BitVec 32 := Scalar.muli v1308 c128_i32_1519
  let v1314 : Index := Scalar.indexCast v1313
  let c0_1520 : Index := 0#32
  ![v1314.toNat, 0]
def k0_dev65 (d0 : Dev nD) : Nat :=
  let c0_i32_1523 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1522 : BitVec 32 := 1#32
  let v1316 : BitVec 32 := Scalar.muli v5 c1_i32_1522
  let v1317 : BitVec 32 := Scalar.addi c0_i32_1523 v1316
  v1317.toNat
def k0_dev66 (d0 : Dev nD) : Nat :=
  let c0_i32_1531 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1530 : BitVec 32 := 1#32
  let v1318 : BitVec 32 := Scalar.muli v7 c1_i32_1530
  let v1319 : BitVec 32 := Scalar.addi c0_i32_1531 v1318
  v1319.toNat
def k0_off4 (d0 : Dev nD) (c0_i32_1556 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c64_i32_1555 : BitVec 32 := 64#32
  let v1342 : BitVec 32 := Scalar.addi v2 c64_i32_1555
  let v1343 : BitVec 32 := Scalar.subi v1342 c0_i32_1556
  let c32_i32_1557 : BitVec 32 := 32#32
  let v1344 : BitVec 32 := Scalar.remsi v1343 c32_i32_1557
  let c128_i32_1561 : BitVec 32 := 128#32
  let v1349 : BitVec 32 := Scalar.muli v1344 c128_i32_1561
  let v1350 : Index := Scalar.indexCast v1349
  let c0_1562 : Index := 0#32
  ![v1350.toNat, 0]
def k0_dev67 (d0 : Dev nD) : Nat :=
  let c0_i32_1565 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1564 : BitVec 32 := 1#32
  let v1352 : BitVec 32 := Scalar.muli v5 c1_i32_1564
  let v1353 : BitVec 32 := Scalar.addi c0_i32_1565 v1352
  v1353.toNat
def k0_dev68 (d0 : Dev nD) : Nat :=
  let c0_i32_1573 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1572 : BitVec 32 := 1#32
  let v1354 : BitVec 32 := Scalar.muli v7 c1_i32_1572
  let v1355 : BitVec 32 := Scalar.addi c0_i32_1573 v1354
  v1355.toNat
def k0_dev69 (d0 : Dev nD) : Nat :=
  let c0_i32_1607 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1606 : BitVec 32 := 1#32
  let v1388 : BitVec 32 := Scalar.muli v5 c1_i32_1606
  let v1389 : BitVec 32 := Scalar.addi c0_i32_1607 v1388
  v1389.toNat
def k0_dev70 (d0 : Dev nD) : Nat :=
  let c0_i32_1615 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1614 : BitVec 32 := 1#32
  let v1390 : BitVec 32 := Scalar.muli v7 c1_i32_1614
  let v1391 : BitVec 32 := Scalar.addi c0_i32_1615 v1390
  v1391.toNat
def k0_dev71 (d0 : Dev nD) : Nat :=
  let c0_i32_1649 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1648 : BitVec 32 := 1#32
  let v1424 : BitVec 32 := Scalar.muli v5 c1_i32_1648
  let v1425 : BitVec 32 := Scalar.addi c0_i32_1649 v1424
  v1425.toNat
def k0_dev72 (d0 : Dev nD) : Nat :=
  let c0_i32_1657 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1656 : BitVec 32 := 1#32
  let v1426 : BitVec 32 := Scalar.muli v7 c1_i32_1656
  let v1427 : BitVec 32 := Scalar.addi c0_i32_1657 v1426
  v1427.toNat
def k0_dev73 (d0 : Dev nD) : Nat :=
  let c0_i32_1691 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1690 : BitVec 32 := 1#32
  let v1460 : BitVec 32 := Scalar.muli v5 c1_i32_1690
  let v1461 : BitVec 32 := Scalar.addi c0_i32_1691 v1460
  v1461.toNat
def k0_dev74 (d0 : Dev nD) : Nat :=
  let c0_i32_1699 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1698 : BitVec 32 := 1#32
  let v1462 : BitVec 32 := Scalar.muli v7 c1_i32_1698
  let v1463 : BitVec 32 := Scalar.addi c0_i32_1699 v1462
  v1463.toNat
def k0_dev75 (d0 : Dev nD) : Nat :=
  let c0_i32_1733 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1732 : BitVec 32 := 1#32
  let v1496 : BitVec 32 := Scalar.muli v5 c1_i32_1732
  let v1497 : BitVec 32 := Scalar.addi c0_i32_1733 v1496
  v1497.toNat
def k0_dev76 (d0 : Dev nD) : Nat :=
  let c0_i32_1741 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1740 : BitVec 32 := 1#32
  let v1498 : BitVec 32 := Scalar.muli v7 c1_i32_1740
  let v1499 : BitVec 32 := Scalar.addi c0_i32_1741 v1498
  v1499.toNat
def k0_dev77 (d0 : Dev nD) : Nat :=
  let c0_i32_1775 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1774 : BitVec 32 := 1#32
  let v1532 : BitVec 32 := Scalar.muli v5 c1_i32_1774
  let v1533 : BitVec 32 := Scalar.addi c0_i32_1775 v1532
  v1533.toNat
def k0_dev78 (d0 : Dev nD) : Nat :=
  let c0_i32_1783 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1782 : BitVec 32 := 1#32
  let v1534 : BitVec 32 := Scalar.muli v7 c1_i32_1782
  let v1535 : BitVec 32 := Scalar.addi c0_i32_1783 v1534
  v1535.toNat
def k0_dev79 (d0 : Dev nD) : Nat :=
  let c0_i32_1817 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1816 : BitVec 32 := 1#32
  let v1568 : BitVec 32 := Scalar.muli v5 c1_i32_1816
  let v1569 : BitVec 32 := Scalar.addi c0_i32_1817 v1568
  v1569.toNat
def k0_dev80 (d0 : Dev nD) : Nat :=
  let c0_i32_1825 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1824 : BitVec 32 := 1#32
  let v1570 : BitVec 32 := Scalar.muli v7 c1_i32_1824
  let v1571 : BitVec 32 := Scalar.addi c0_i32_1825 v1570
  v1571.toNat
def k0_dev81 (d0 : Dev nD) : Nat :=
  let c0_i32_1859 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1858 : BitVec 32 := 1#32
  let v1604 : BitVec 32 := Scalar.muli v5 c1_i32_1858
  let v1605 : BitVec 32 := Scalar.addi c0_i32_1859 v1604
  v1605.toNat
def k0_dev82 (d0 : Dev nD) : Nat :=
  let c0_i32_1867 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1866 : BitVec 32 := 1#32
  let v1606 : BitVec 32 := Scalar.muli v7 c1_i32_1866
  let v1607 : BitVec 32 := Scalar.addi c0_i32_1867 v1606
  v1607.toNat
def k0_dev83 (d0 : Dev nD) : Nat :=
  let c0_i32_1901 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1900 : BitVec 32 := 1#32
  let v1640 : BitVec 32 := Scalar.muli v5 c1_i32_1900
  let v1641 : BitVec 32 := Scalar.addi c0_i32_1901 v1640
  v1641.toNat
def k0_dev84 (d0 : Dev nD) : Nat :=
  let c0_i32_1909 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1908 : BitVec 32 := 1#32
  let v1642 : BitVec 32 := Scalar.muli v7 c1_i32_1908
  let v1643 : BitVec 32 := Scalar.addi c0_i32_1909 v1642
  v1643.toNat
def k0_dev85 (d0 : Dev nD) : Nat :=
  let c0_i32_1943 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1942 : BitVec 32 := 1#32
  let v1676 : BitVec 32 := Scalar.muli v5 c1_i32_1942
  let v1677 : BitVec 32 := Scalar.addi c0_i32_1943 v1676
  v1677.toNat
def k0_dev86 (d0 : Dev nD) : Nat :=
  let c0_i32_1951 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1950 : BitVec 32 := 1#32
  let v1678 : BitVec 32 := Scalar.muli v7 c1_i32_1950
  let v1679 : BitVec 32 := Scalar.addi c0_i32_1951 v1678
  v1679.toNat
def k0_dev87 (d0 : Dev nD) : Nat :=
  let c0_i32_1985 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1984 : BitVec 32 := 1#32
  let v1712 : BitVec 32 := Scalar.muli v5 c1_i32_1984
  let v1713 : BitVec 32 := Scalar.addi c0_i32_1985 v1712
  v1713.toNat
def k0_dev88 (d0 : Dev nD) : Nat :=
  let c0_i32_1993 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1992 : BitVec 32 := 1#32
  let v1714 : BitVec 32 := Scalar.muli v7 c1_i32_1992
  let v1715 : BitVec 32 := Scalar.addi c0_i32_1993 v1714
  v1715.toNat
def k0_dev89 (d0 : Dev nD) : Nat :=
  let c0_i32_2027 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_2026 : BitVec 32 := 1#32
  let v1748 : BitVec 32 := Scalar.muli v5 c1_i32_2026
  let v1749 : BitVec 32 := Scalar.addi c0_i32_2027 v1748
  v1749.toNat
def k0_dev90 (d0 : Dev nD) : Nat :=
  let c0_i32_2035 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2034 : BitVec 32 := 1#32
  let v1750 : BitVec 32 := Scalar.muli v7 c1_i32_2034
  let v1751 : BitVec 32 := Scalar.addi c0_i32_2035 v1750
  v1751.toNat
def k0_dev91 (d0 : Dev nD) : Nat :=
  let c0_i32_2069 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_2068 : BitVec 32 := 1#32
  let v1784 : BitVec 32 := Scalar.muli v5 c1_i32_2068
  let v1785 : BitVec 32 := Scalar.addi c0_i32_2069 v1784
  v1785.toNat
def k0_dev92 (d0 : Dev nD) : Nat :=
  let c0_i32_2077 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2076 : BitVec 32 := 1#32
  let v1786 : BitVec 32 := Scalar.muli v7 c1_i32_2076
  let v1787 : BitVec 32 := Scalar.addi c0_i32_2077 v1786
  v1787.toNat
def k0_dev93 (d0 : Dev nD) : Nat :=
  let c0_i32_2111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_2110 : BitVec 32 := 1#32
  let v1820 : BitVec 32 := Scalar.muli v5 c1_i32_2110
  let v1821 : BitVec 32 := Scalar.addi c0_i32_2111 v1820
  v1821.toNat
def k0_dev94 (d0 : Dev nD) : Nat :=
  let c0_i32_2119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2118 : BitVec 32 := 1#32
  let v1822 : BitVec 32 := Scalar.muli v7 c1_i32_2118
  let v1823 : BitVec 32 := Scalar.addi c0_i32_2119 v1822
  v1823.toNat
def k0_dev95 (d0 : Dev nD) : Nat :=
  let c0_i32_2153 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_2152 : BitVec 32 := 1#32
  let v1856 : BitVec 32 := Scalar.muli v5 c1_i32_2152
  let v1857 : BitVec 32 := Scalar.addi c0_i32_2153 v1856
  v1857.toNat
def k0_dev96 (d0 : Dev nD) : Nat :=
  let c0_i32_2161 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2160 : BitVec 32 := 1#32
  let v1858 : BitVec 32 := Scalar.muli v7 c1_i32_2160
  let v1859 : BitVec 32 := Scalar.addi c0_i32_2161 v1858
  v1859.toNat
def k0_dev97 (d0 : Dev nD) : Nat :=
  let c0_i32_2195 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_2194 : BitVec 32 := 1#32
  let v1892 : BitVec 32 := Scalar.muli v5 c1_i32_2194
  let v1893 : BitVec 32 := Scalar.addi c0_i32_2195 v1892
  v1893.toNat
def k0_dev98 (d0 : Dev nD) : Nat :=
  let c0_i32_2203 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2202 : BitVec 32 := 1#32
  let v1894 : BitVec 32 := Scalar.muli v7 c1_i32_2202
  let v1895 : BitVec 32 := Scalar.addi c0_i32_2203 v1894
  v1895.toNat
def k0_dev99 (d0 : Dev nD) : Nat :=
  let c0_i32_2237 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_2236 : BitVec 32 := 1#32
  let v1928 : BitVec 32 := Scalar.muli v5 c1_i32_2236
  let v1929 : BitVec 32 := Scalar.addi c0_i32_2237 v1928
  v1929.toNat
def k0_dev100 (d0 : Dev nD) : Nat :=
  let c0_i32_2245 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2244 : BitVec 32 := 1#32
  let v1930 : BitVec 32 := Scalar.muli v7 c1_i32_2244
  let v1931 : BitVec 32 := Scalar.addi c0_i32_2245 v1930
  v1931.toNat
def k0_dev101 (d0 : Dev nD) : Nat :=
  let c0_i32_2279 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_2278 : BitVec 32 := 1#32
  let v1964 : BitVec 32 := Scalar.muli v5 c1_i32_2278
  let v1965 : BitVec 32 := Scalar.addi c0_i32_2279 v1964
  v1965.toNat
def k0_dev102 (d0 : Dev nD) : Nat :=
  let c0_i32_2287 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2286 : BitVec 32 := 1#32
  let v1966 : BitVec 32 := Scalar.muli v7 c1_i32_2286
  let v1967 : BitVec 32 := Scalar.addi c0_i32_2287 v1966
  v1967.toNat
def k0_dev103 (d0 : Dev nD) : Nat :=
  let c0_i32_2321 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_2320 : BitVec 32 := 1#32
  let v2000 : BitVec 32 := Scalar.muli v5 c1_i32_2320
  let v2001 : BitVec 32 := Scalar.addi c0_i32_2321 v2000
  v2001.toNat
def k0_dev104 (d0 : Dev nD) : Nat :=
  let c0_i32_2329 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2328 : BitVec 32 := 1#32
  let v2002 : BitVec 32 := Scalar.muli v7 c1_i32_2328
  let v2003 : BitVec 32 := Scalar.addi c0_i32_2329 v2002
  v2003.toNat
def k0_dev105 (d0 : Dev nD) : Nat :=
  let c0_i32_2363 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_2362 : BitVec 32 := 1#32
  let v2036 : BitVec 32 := Scalar.muli v5 c1_i32_2362
  let v2037 : BitVec 32 := Scalar.addi c0_i32_2363 v2036
  v2037.toNat
def k0_dev106 (d0 : Dev nD) : Nat :=
  let c0_i32_2371 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2370 : BitVec 32 := 1#32
  let v2038 : BitVec 32 := Scalar.muli v7 c1_i32_2370
  let v2039 : BitVec 32 := Scalar.addi c0_i32_2371 v2038
  v2039.toNat
def k0_dev107 (d0 : Dev nD) : Nat :=
  let c0_i32_2405 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_2404 : BitVec 32 := 1#32
  let v2072 : BitVec 32 := Scalar.muli v5 c1_i32_2404
  let v2073 : BitVec 32 := Scalar.addi c0_i32_2405 v2072
  v2073.toNat
def k0_dev108 (d0 : Dev nD) : Nat :=
  let c0_i32_2413 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2412 : BitVec 32 := 1#32
  let v2074 : BitVec 32 := Scalar.muli v7 c1_i32_2412
  let v2075 : BitVec 32 := Scalar.addi c0_i32_2413 v2074
  v2075.toNat
def k0_dev109 (d0 : Dev nD) : Nat :=
  let c0_i32_2447 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_2446 : BitVec 32 := 1#32
  let v2108 : BitVec 32 := Scalar.muli v5 c1_i32_2446
  let v2109 : BitVec 32 := Scalar.addi c0_i32_2447 v2108
  v2109.toNat
def k0_dev110 (d0 : Dev nD) : Nat :=
  let c0_i32_2455 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2454 : BitVec 32 := 1#32
  let v2110 : BitVec 32 := Scalar.muli v7 c1_i32_2454
  let v2111 : BitVec 32 := Scalar.addi c0_i32_2455 v2110
  v2111.toNat
def k0_dev111 (d0 : Dev nD) : Nat :=
  let c0_i32_2489 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_2488 : BitVec 32 := 1#32
  let v2144 : BitVec 32 := Scalar.muli v5 c1_i32_2488
  let v2145 : BitVec 32 := Scalar.addi c0_i32_2489 v2144
  v2145.toNat
def k0_dev112 (d0 : Dev nD) : Nat :=
  let c0_i32_2497 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2496 : BitVec 32 := 1#32
  let v2146 : BitVec 32 := Scalar.muli v7 c1_i32_2496
  let v2147 : BitVec 32 := Scalar.addi c0_i32_2497 v2146
  v2147.toNat
def k0_dev113 (d0 : Dev nD) : Nat :=
  let c0_i32_2531 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_2530 : BitVec 32 := 1#32
  let v2180 : BitVec 32 := Scalar.muli v5 c1_i32_2530
  let v2181 : BitVec 32 := Scalar.addi c0_i32_2531 v2180
  v2181.toNat
def k0_dev114 (d0 : Dev nD) : Nat :=
  let c0_i32_2539 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2538 : BitVec 32 := 1#32
  let v2182 : BitVec 32 := Scalar.muli v7 c1_i32_2538
  let v2183 : BitVec 32 := Scalar.addi c0_i32_2539 v2182
  v2183.toNat
def k0_dev115 (d0 : Dev nD) : Nat :=
  let c0_i32_2573 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_2572 : BitVec 32 := 1#32
  let v2216 : BitVec 32 := Scalar.muli v5 c1_i32_2572
  let v2217 : BitVec 32 := Scalar.addi c0_i32_2573 v2216
  v2217.toNat
def k0_dev116 (d0 : Dev nD) : Nat :=
  let c0_i32_2581 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2580 : BitVec 32 := 1#32
  let v2218 : BitVec 32 := Scalar.muli v7 c1_i32_2580
  let v2219 : BitVec 32 := Scalar.addi c0_i32_2581 v2218
  v2219.toNat
def k0_dev117 (d0 : Dev nD) : Nat :=
  let c0_i32_2615 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_2614 : BitVec 32 := 1#32
  let v2252 : BitVec 32 := Scalar.muli v5 c1_i32_2614
  let v2253 : BitVec 32 := Scalar.addi c0_i32_2615 v2252
  v2253.toNat
def k0_dev118 (d0 : Dev nD) : Nat :=
  let c0_i32_2623 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2622 : BitVec 32 := 1#32
  let v2254 : BitVec 32 := Scalar.muli v7 c1_i32_2622
  let v2255 : BitVec 32 := Scalar.addi c0_i32_2623 v2254
  v2255.toNat
def k0_dev119 (d0 : Dev nD) : Nat :=
  let c0_i32_2657 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_2656 : BitVec 32 := 1#32
  let v2288 : BitVec 32 := Scalar.muli v5 c1_i32_2656
  let v2289 : BitVec 32 := Scalar.addi c0_i32_2657 v2288
  v2289.toNat
def k0_dev120 (d0 : Dev nD) : Nat :=
  let c0_i32_2665 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2664 : BitVec 32 := 1#32
  let v2290 : BitVec 32 := Scalar.muli v7 c1_i32_2664
  let v2291 : BitVec 32 := Scalar.addi c0_i32_2665 v2290
  v2291.toNat
def k0_dev121 (d0 : Dev nD) : Nat :=
  let c0_i32_2699 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_2698 : BitVec 32 := 1#32
  let v2324 : BitVec 32 := Scalar.muli v5 c1_i32_2698
  let v2325 : BitVec 32 := Scalar.addi c0_i32_2699 v2324
  v2325.toNat
def k0_dev122 (d0 : Dev nD) : Nat :=
  let c0_i32_2707 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2706 : BitVec 32 := 1#32
  let v2326 : BitVec 32 := Scalar.muli v7 c1_i32_2706
  let v2327 : BitVec 32 := Scalar.addi c0_i32_2707 v2326
  v2327.toNat
def k0_dev123 (d0 : Dev nD) : Nat :=
  let c0_i32_2741 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_2740 : BitVec 32 := 1#32
  let v2360 : BitVec 32 := Scalar.muli v5 c1_i32_2740
  let v2361 : BitVec 32 := Scalar.addi c0_i32_2741 v2360
  v2361.toNat
def k0_dev124 (d0 : Dev nD) : Nat :=
  let c0_i32_2749 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2748 : BitVec 32 := 1#32
  let v2362 : BitVec 32 := Scalar.muli v7 c1_i32_2748
  let v2363 : BitVec 32 := Scalar.addi c0_i32_2749 v2362
  v2363.toNat
def k0_dev125 (d0 : Dev nD) : Nat :=
  let c0_i32_2783 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_2782 : BitVec 32 := 1#32
  let v2396 : BitVec 32 := Scalar.muli v5 c1_i32_2782
  let v2397 : BitVec 32 := Scalar.addi c0_i32_2783 v2396
  v2397.toNat
def k0_dev126 (d0 : Dev nD) : Nat :=
  let c0_i32_2791 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2790 : BitVec 32 := 1#32
  let v2398 : BitVec 32 := Scalar.muli v7 c1_i32_2790
  let v2399 : BitVec 32 := Scalar.addi c0_i32_2791 v2398
  v2399.toNat
abbrev stage0_0 : Fin 1 → Memref sig .tc .vmem S4096x128 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x2048 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩

abbrev nBuf : Space → Nat
  | .hbm => 5
  | .vmem => 3
  | .smem => 2
  | _ => 0

abbrev bufTy : (tb : Table) → Fin (tcTables nBuf tb) → BufTy
  | .hbm, ⟨0, _⟩ => ⟨S4096x4096, .fp8e5m2⟩
  | .hbm, ⟨1, _⟩ => ⟨S4096x2048, .fp8e5m2⟩
  | .hbm, ⟨2, _⟩ => ⟨S1, .f32⟩
  | .hbm, ⟨3, _⟩ => ⟨S1, .f32⟩
  | .hbm, ⟨4, _⟩ => ⟨S4096x2048, .f32⟩
  | .local _ .vmem, ⟨0, _⟩ => ⟨S4096x4096, .fp8e5m2⟩
  | .local _ .vmem, ⟨1, _⟩ => ⟨S4096x2048, .fp8e5m2⟩
  | .local _ .vmem, ⟨2, _⟩ => ⟨S4096x2048, .f32⟩
  | .local _ .smem, ⟨0, _⟩ => ⟨S1, .f32⟩
  | .local _ .smem, ⟨1, _⟩ => ⟨S1, .f32⟩
  | _, _ => ⟨S4096x4096, .fp8e5m2⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x4096 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Program.lean ====
/-
  The kernel's body as a short program. The printed body is the 62 ring hops written out one after another; here
  each hop is one definition at its hop number, and `body_eq` states that the printed body is the prologue, the 31 hops
  that add a partial product, the store of the device's own rows and the 31 hops that pass the finished rows around.
-/
module

public import proofs.«01_k».proof.Proof.Gen.KernelIdeal
public import proofs.«01_k».proof.Proof.Gen.KernelIdeal.Skeleton

@[expose] public section

noncomputable section

namespace Cert.KernelIdeal.Ring

open Cert.KernelIdeal Cert.KernelIdeal.Gen
open Idealize.ShloMosaic Idealize.ShloMosaic.TcCoe Idealize.SL.Sem

variable {F : FTy → Type} [FloatOps F]

/-- The programs of the kernel's body. -/
abbrev Pg (F : FTy → Type) [FloatOps F] : Type 1 := Prog (TpuEff nD τ sig (Elt F) Λ₀ .tc) PUnit

/-- The buffers the body works on, each whole. -/
abbrev xM : Memref sig .tc .vmem S4096x128 .fp8e5m2 := Memref.whole cc0_stg0_0
abbrev wM : Memref sig .tc .vmem S128x2048 .fp8e5m2 := Memref.whole cc0_stg1_0
abbrev sxM : Memref sig .tc .smem S1 .f32 := Memref.whole cc0_stg2_0
abbrev swM : Memref sig .tc .smem S1 .f32 := Memref.whole cc0_stg3_0
abbrev outM : Memref sig .tc .vmem S4096x2048 .f32 := Memref.whole cc0_stg4_0
abbrev xbM : Memref sig .tc .vmem S4096x128 .bf16 := Memref.whole cc0_scratch0
abbrev wbM : Memref sig .tc .vmem S128x2048 .bf16 := Memref.whole cc0_scratch1
abbrev commM : Memref sig .tc .vmem S2x128x2048 .f32 := Memref.whole cc0_scratch2

/-- A slot lies in the communication buffer. -/
theorem slot_inb (k : Fin 2) : ∀ a, (![k.val, 0, 0] : Fin 3 → ℕ) a + S1x128x2048.size a ≤ S2x128x2048.size a := by
  fin_cases k <;> decide

/-- A slot's semaphore lies in its array. -/
theorem slotSem_inb (k : Fin 2) : ∀ a, (![k.val] : Fin 1 → ℕ) a + S1.size a ≤ S2.size a := by
  fin_cases k <;> decide

/-- Slot `k` of the communication buffer, as a rectangle and as the buffer of one chunk. -/
abbrev slotR (k : Fin 2) : Rect S2x128x2048 := Rect.unit (s := S2x128x2048) ![k.val, 0, 0] S1x128x2048.size (slot_inb k)
abbrev slotM (k : Fin 2) : Memref sig .tc .vmem S128x2048 .f32 :=
  (commM.slice (slotR k) (fun _ => rfl)).squeeze S128x2048 squeezes_S1x128x2048_S128x2048

/-- The semaphores: the credit, and each slot's send and receive semaphore. -/
abbrev credS : Sem sig := SemArray.sem cc0_scratch5
abbrev sendS (k : Fin 2) : DmaSem sig :=
  ((cc0_scratch3.slice (Rect.unit (s := S2) ![k.val] S1.size (slotSem_inb k))).squeeze S_ squeezes_S1_S_ : DmaSems sig S_).sem
abbrev recvS (k : Fin 2) : DmaSem sig :=
  ((cc0_scratch4.slice (Rect.unit (s := S2) ![k.val] S1.size (slotSem_inb k))).squeeze S_ squeezes_S1_S_ : DmaSems sig S_).sem

/-- The slot a hop sends from, and the one it receives in. -/
abbrev src (t : ℕ) : Fin 2 := ⟨t % 2, Nat.mod_lt _ (by decide)⟩
abbrev dst (t : ℕ) : Fin 2 := ⟨(t + 1) % 2, Nat.mod_lt _ (by decide)⟩

/-- A hop number of either phase as the printed offsets count it. -/
abbrev hopIx (t : ℕ) : Fin 31 := ⟨t % 31, Nat.mod_lt _ (by decide)⟩

/-- One hop's transfer: tell the left neighbour that its target slot here is free, wait for the right neighbour's word,
    send the chunk to the right and wait for the send and for the chunk from the left. -/
def move (c : Dev nD) (s r : Fin 2) (rest : Pg F) : Pg F := do
  semSignalWord (⟨k0_dev3 c, k0_dev3_lt c⟩ : Dev nD) credS 1#32
  semWaitWord credS 1#32
  Prog.lift (.enqueueDma (slotM s) (.remote (Dev.tc (⟨k0_dev4 c, k0_dev4_lt c⟩ : Dev nD)) (slotM r) (.dma (sendS s))) (.dma (recvS r)) ((View.wordExact_bits rfl).reshape _ _) ((View.wordExact_bits rfl).reshape _ _) ⟨⟨rfl, Or.inl rfl⟩, trivial⟩)
  Prog.lift (.waitDma2 (sendS s) (slotM r) (slotM s) ((View.wordExact_bits rfl).reshape _ _) ((View.wordExact_bits rfl).reshape _ _))
  Prog.lift (.waitDma2 (recvS r) (slotM s) (slotM r) ((View.wordExact_bits rfl).reshape _ _) ((View.wordExact_bits rfl).reshape _ _))
  rest

/-- Add the device's own partial product of the arriving chunk to it. -/
def accum (c : Dev nD) (r : Fin 2) (t : ℕ) (rest : Pg F) : Pg F := do
  let v66 : Vec F S1x128x2048 .f32 ← Prog.lift (.load commM (slotR r).toLoadRect (View.loadsAt_vmem h_S1x128x2048))
  let v70 : Vec F S128x128 .bf16 ← Prog.lift (.load xbM (Rect.unit (s := S4096x128) (k0_off2 c (BitVec.ofNat 32 (hopIx t).val)) S128x128.size (k0_off2_inb c (hopIx t))).toLoadRect (View.loadsAt_vmem h_S128x128))
  let v71 : Vec F S128x2048 .bf16 ← Prog.lift (.load wbM (Rect.unit (s := S128x2048) ![0, 0] S128x2048.size inb_S128x2048_S128x2048_0_0).toLoadRect (View.loadsAt_vmem h_S128x2048))
  let _v74 : Vec F S1x128x2048 .f32 ← Prog.lift (.load commM (slotR r).toLoadRect (View.loadsAt_vmem h_S1x128x2048))
  Prog.lift (.store commM (slotR r) (k0_pay6 v66 v70 v71) Finset.univ (View.stores_vmem_bits_univ h_S1x128x2048 rfl) (.inl rfl))
  rest

/-- Store the scaled chunk of slot `r` in the output's rows from `off`. -/
def emit (r : Fin 2) (off : Fin 2 → ℕ) (inb : ∀ a, off a + S128x2048.size a ≤ S4096x2048.size a) (v27 : F .f32)
    (rest : Pg F) : Pg F := do
  let v : Vec F S1x128x2048 .f32 ← Prog.lift (.load commM (slotR r).toLoadRect (View.loadsAt_vmem h_S1x128x2048))
  let _u : Vec F S128x2048 .f32 ← Prog.lift (.load outM (Rect.unit (s := S4096x2048) off S128x2048.size inb).toLoadRect (View.loadsAt_vmem h_S128x2048))
  Prog.lift (.store outM (Rect.unit (s := S4096x2048) off S128x2048.size inb) (k0_pay49 v27 v) Finset.univ (View.stores_vmem_bits_univ h_S128x2048 rfl) (.inl rfl))
  rest

/-- `n` hops of the first phase from hop `t`. -/
def rsHops (c : Dev nD) (rest : Pg F) : (n t : ℕ) → Pg F
  | 0, _ => rest
  | n + 1, t => move c (src t) (dst t) (accum c (dst t) t (rsHops c rest n (t + 1)))

/-- `n` hops of the second phase from its hop `t` (hop `31 + t` of all). -/
def agHops (c : Dev nD) (v27 : F .f32) (rest : Pg F) : (n t : ℕ) → Pg F
  | 0, _ => rest
  | n + 1, t => move c (src (31 + t)) (dst (31 + t)) (emit (dst (31 + t)) (k0_off4 c (BitVec.ofNat 32 (hopIx t).val)) (k0_off4_inb c (hopIx t)) v27 (agHops c v27 rest n (t + 1)))

/-- The body after its casts: the device's own partial product in slot 0, the hops, the own rows between the phases. -/
def ring (c : Dev nD) (v27 : F .f32) : Pg F := do
  let v30 : Vec F S128x128 .bf16 ← Prog.lift (.load xbM (Rect.unit (s := S4096x128) (k0_off1 c) S128x128.size (k0_off1_inb c)).toLoadRect (View.loadsAt_vmem h_S128x128))
  let v31 : Vec F S128x2048 .bf16 ← Prog.lift (.load wbM (Rect.unit (s := S128x2048) ![0, 0] S128x2048.size inb_S128x2048_S128x2048_0_0).toLoadRect (View.loadsAt_vmem h_S128x2048))
  let _v33 : Vec F S1x128x2048 .f32 ← Prog.lift (.load commM (slotR 0).toLoadRect (View.loadsAt_vmem h_S1x128x2048))
  Prog.lift (.store commM (slotR 0) (k0_pay5 v30 v31) Finset.univ (View.stores_vmem_bits_univ h_S1x128x2048 rfl) (.inl rfl))
  rsHops c (emit 1 (k0_off3 c) (k0_off3_inb c) v27 (agHops c v27 (pure ⟨⟩) 31 0)) 31 0

/-- The whole body. -/
def body : Pg F := do
  let c : Dev nD ← Prog.lift .deviceId
  let v8 : Sems sig S_ := SemArray.scalar (sig.barrier 0 rfl)
  semSignalWord (⟨k0_dev1 c, k0_dev1_lt c⟩ : Dev nD) v8.sem 1#32
  semSignalWord (⟨k0_dev2 c, k0_dev2_lt c⟩ : Dev nD) v8.sem 1#32
  semWaitWord v8.sem 2#32
  let v13 : Vec F S4096x128 .fp8e5m2 ← Prog.lift (.load xM (Rect.unit (s := S4096x128) ![0, 0] S4096x128.size inb_S4096x128_S4096x128_0_0).toLoadRect (View.loadsAt_vmem h_S4096x128))
  let _v16 : Vec F S4096x128 .bf16 ← Prog.lift (.load xbM (Rect.unit (s := S4096x128) ![0, 0] S4096x128.size inb_S4096x128_S4096x128_0_0).toLoadRect (View.loadsAt_vmem h_S4096x128))
  Prog.lift (.store xbM (Rect.unit (s := S4096x128) ![0, 0] S4096x128.size inb_S4096x128_S4096x128_0_0) (k0_pay2 v13) Finset.univ (View.stores_vmem h_S4096x128 ((Memref.isWhole_whole cc0_scratch0).storeExact_slice rfl _ packedbf16_S4096x128_S4096x128_0_0) (fun _ => rfl)) (.inl rfl))
  let v19 : Vec F S128x2048 .fp8e5m2 ← Prog.lift (.load wM (Rect.unit (s := S128x2048) ![0, 0] S128x2048.size inb_S128x2048_S128x2048_0_0).toLoadRect (View.loadsAt_vmem h_S128x2048))
  let _v22 : Vec F S128x2048 .bf16 ← Prog.lift (.load wbM (Rect.unit (s := S128x2048) ![0, 0] S128x2048.size inb_S128x2048_S128x2048_0_0).toLoadRect (View.loadsAt_vmem h_S128x2048))
  Prog.lift (.store wbM (Rect.unit (s := S128x2048) ![0, 0] S128x2048.size inb_S128x2048_S128x2048_0_0) (k0_pay3 v19) Finset.univ (View.stores_vmem h_S128x2048 ((Memref.isWhole_whole cc0_scratch1).storeExact_slice rfl _ packedbf16_S128x2048_S128x2048_0_0) (fun _ => rfl)) (.inl rfl))
  let v25 : Elt F .f32 ← smemLoad sxM (Rect.unit (s := S1) ![0] S1.size inb_S1_S1_0) numel1_S1 rfl
  let v26 : Elt F .f32 ← smemLoad swM (Rect.unit (s := S1) ![0] S1.size inb_S1_S1_0) numel1_S1 rfl
  ring c (k0_pay4 v25 v26)

set_option maxRecDepth 65536 in
set_option maxHeartbeats 4000000 in
/-- The printed body, called on the launch's buffers, is that program. -/
theorem body_eq : cc0_body (F := F) xM (Memref.isWhole_whole _) wM (Memref.isWhole_whole _) sxM (Memref.isWhole_whole _)
    swM (Memref.isWhole_whole _) outM (Memref.isWhole_whole _) xbM (Memref.isWhole_whole _) wbM (Memref.isWhole_whole _)
    commM (Memref.isWhole_whole _) cc0_scratch3 cc0_scratch4 cc0_scratch5 = body (F := F) := by
  exact (rfl : _)

end Cert.KernelIdeal.Ring

end
-- ==== Proof.Protocol.lean ====
/-
  The ring's protocol under the rounds library: the cells, what passes through a slot at every hop, the schedule of every
  cell's rounds, what a device owes, and the levels that show that no device waits for something that waits for it.

  Hop `t` of device `c` (62 hops). `c` signals the credit cell of the device before it: its own slot `dst t` is free and
  goes to that device. `c` waits for its own credit, which brings the slot `dst t` of the device after it, sends its slot
  `src t` there, and waits for the send and for the arrival of the chunk of the device before it.
-/
module

public import proofs.«01_k».proof.Proof.Program
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.Tactic

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the ring's; what is owed is indexed by the hop -/

abbrev UB : Type := URounds (GSem nD τ sig) Bool
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

variable (m : (ℓ : Loc nD τ sig) → Buf (Elt F) ℓ) (ρ : Dev nD → PrngReg)

/-- The memory at launch: any contents, every semaphore at zero. -/
def s₀ : MemSt nD τ sig (Elt F) := ⟨m, fun _ => 0, ρ⟩

/-! ## The ring -/

set_option backward.proofsInPublic true in
/-- The device after `c`; -/
def nxt (c : Dev nD) : Dev nD := ⟨(c.val + 1) % 32, Nat.mod_lt _ (by decide)⟩
set_option backward.proofsInPublic true in
/-- the device before it. -/
def prv (c : Dev nD) : Dev nD := ⟨(c.val + 31) % 32, Nat.mod_lt _ (by decide)⟩

theorem prv_nxt (c : Dev nD) : prv (nxt c) = c := by
  have h : c.val < 32 := c.isLt
  apply Fin.ext; simp only [prv, nxt]; omega
theorem nxt_prv (c : Dev nD) : nxt (prv c) = c := by
  have h : c.val < 32 := c.isLt
  apply Fin.ext; simp only [prv, nxt]; omega

theorem dev1_eq (c : Dev nD) : (⟨k0_dev1 c, k0_dev1_lt c⟩ : Dev nD) = prv c := Fin.ext (k0_dev1_eq c)
theorem dev2_eq (c : Dev nD) : (⟨k0_dev2 c, k0_dev2_lt c⟩ : Dev nD) = nxt c := Fin.ext (k0_dev2_eq c)
theorem dev3_eq (c : Dev nD) : (⟨k0_dev3 c, k0_dev3_lt c⟩ : Dev nD) = prv c := Fin.ext (k0_dev3_eq c)
theorem dev4_eq (c : Dev nD) : (⟨k0_dev4 c, k0_dev4_lt c⟩ : Dev nD) = nxt c := Fin.ext (k0_dev4_eq c)

/-- The ring as a permutation of the devices. -/
def around : Dev nD ≃ Dev nD := ⟨nxt, prv, prv_nxt, nxt_prv⟩

/-! ## The cells -/

abbrev barS : Sem sig := (SemArray.scalar (sig.barrier 0 rfl) : Sems sig S_).sem

abbrev barCell (c : Dev nD) : GSem nD τ sig := ((c : Thread nD τ), .reg barS)
abbrev credCell (c : Dev nD) : GSem nD τ sig := ((c : Thread nD τ), .reg credS)
abbrev sendCell (c : Dev nD) (k : Fin 2) : GSem nD τ sig := ((c : Thread nD τ), .dma (sendS k))
abbrev recvCell (c : Dev nD) (k : Fin 2) : GSem nD τ sig := ((c : Thread nD τ), .dma (recvS k))

/-- The kernel's own semaphores: credit, the two send and the two receive semaphores; -/
abbrev osem : Fin 5 → SemLoc sig := fun
  | 0 => .reg credS | 1 => .dma (sendS 0) | 2 => .dma (sendS 1) | 3 => .dma (recvS 0) | 4 => .dma (recvS 1)
/-- and with the runtime's barrier in front. -/
abbrev csem : Fin 6 → SemLoc sig := fun
  | 0 => .reg barS | 1 => .reg credS | 2 => .dma (sendS 0) | 3 => .dma (sendS 1) | 4 => .dma (recvS 0) | 5 => .dma (recvS 1)
abbrev kcell (ck : Dev nD × Fin 6) : GSem nD τ sig := ((ck.1 : Thread nD τ), csem ck.2)

/-- A slot's send and receive semaphore among the six. -/
abbrev sendIx (k : Fin 2) : Fin 6 := ⟨2 + k.val, by omega⟩
abbrev recvIx (k : Fin 2) : Fin 6 := ⟨4 + k.val, by omega⟩

theorem kcell_send (c : Dev nD) (k : Fin 2) : kcell (c, sendIx k) = sendCell c k := by fin_cases k <;> rfl
theorem kcell_recv (c : Dev nD) (k : Fin 2) : kcell (c, recvIx k) = recvCell c k := by fin_cases k <;> rfl

theorem cred_ne_bar : (SemLoc.reg credS : SemLoc sig) ≠ .reg barS := by decide
theorem bar_ne_cred : (SemLoc.reg barS : SemLoc sig) ≠ .reg credS := by decide
theorem send_ne_bar (k : Fin 2) : (SemLoc.dma (sendS k) : SemLoc sig) ≠ .reg barS := fun h => by cases h
theorem recv_ne_bar (k : Fin 2) : (SemLoc.dma (recvS k) : SemLoc sig) ≠ .reg barS := fun h => by cases h
theorem send_ne_cred (k : Fin 2) : (SemLoc.dma (sendS k) : SemLoc sig) ≠ .reg credS := fun h => by cases h
theorem recv_ne_cred (k : Fin 2) : (SemLoc.dma (recvS k) : SemLoc sig) ≠ .reg credS := fun h => by cases h
theorem send_ne_recv (k l : Fin 2) : (SemLoc.dma (sendS k) : SemLoc sig) ≠ .dma (recvS l) := by
  fin_cases k <;> fin_cases l <;> decide
theorem recv_ne_send (k l : Fin 2) : (SemLoc.dma (recvS k) : SemLoc sig) ≠ .dma (sendS l) := fun h => send_ne_recv l k h.symm
theorem send_inj (k l : Fin 2) (h : (SemLoc.dma (sendS k) : SemLoc sig) = .dma (sendS l)) : k = l := by
  revert h; fin_cases k <;> fin_cases l <;> decide
theorem recv_inj (k l : Fin 2) (h : (SemLoc.dma (recvS k) : SemLoc sig) = .dma (recvS l)) : k = l := by
  revert h; fin_cases k <;> fin_cases l <;> decide

/-- What one chunk's transfer adds to a semaphore. -/
abbrev N : ℕ := (slotM 0).view.dmaCredit
theorem N_pos : 0 < N := View.dmaCredit_pos _ (by decide)
theorem N_slot (k : Fin 2) : (slotM k).view.dmaCredit = N := rfl

/-! ## Hops and rounds -/

theorem src_succ (t : ℕ) : src (t + 1) = dst t := rfl
theorem dst_succ (t : ℕ) : dst (t + 1) = src t := by apply Fin.ext; simp only [src, dst]; omega

/-- The hop of round `j` of a slot's send cell; of its receive cell. -/
def hopS (k : Fin 2) (j : ℕ) : ℕ := 2 * j + k.val
def hopR (k : Fin 2) (j : ℕ) : ℕ := 2 * j + (1 - k.val)

theorem hopS_src (t : ℕ) : hopS (src t) (t / 2) = t := by simp only [hopS, src]; omega
theorem hopR_dst (t : ℕ) : hopR (dst t) (t / 2) = t := by simp only [hopR, dst]; omega

/-! ## What the body computes with -/

/-- The staged inputs. -/
def xstg (c : Dev nD) : (cc0_stg0_0 : Ref sig .tc).ty.Contents (Elt F) :=
  (win0_0.blk (0 : Fin 1)).view.read (Elt F) ((s₀ m ρ).mem ((c : Thread nD τ).loc main_arg0))
def wstg (c : Dev nD) : (cc0_stg1_0 : Ref sig .tc).ty.Contents (Elt F) :=
  (win0_1.blk (0 : Fin 1)).view.read (Elt F) ((s₀ m ρ).mem ((c : Thread nD τ).loc main_arg1))
def sxstg (c : Dev nD) : (cc0_stg2_0 : Ref sig .tc).ty.Contents (Elt F) :=
  (win0_2.blk (0 : Fin 1)).view.read (Elt F) ((s₀ m ρ).mem ((c : Thread nD τ).loc main_arg2))
def swstg (c : Dev nD) : (cc0_stg3_0 : Ref sig .tc).ty.Contents (Elt F) :=
  (win0_3.blk (0 : Fin 1)).view.read (Elt F) ((s₀ m ρ).mem ((c : Thread nD τ).loc main_arg3))

/-- The widened inputs, as the body stores them. -/
def xb (c : Dev nD) : (cc0_scratch0 : Ref sig .tc).ty.Contents (Elt F) := k0_pay2 (xstg m ρ c)
def wb (c : Dev nD) : (cc0_scratch1 : Ref sig .tc).ty.Contents (Elt F) := k0_pay3 (wstg m ρ c)

/-- The one entry of a scale's buffer. -/
abbrev one0 : (Rect.unit (s := S1) ![0] S1.size inb_S1_S1_0).shape.Idx := Shape.Idx.first (numel1_S1.symm ▸ Nat.one_pos)
/-- The product of the two scales. -/
def scl (c : Dev nD) : F .f32 :=
  k0_pay4 (sxM.view.readAt (Elt F) (Rect.unit (s := S1) ![0] S1.size inb_S1_S1_0).toLoadRect (sxstg m ρ c) one0)
    (swM.view.readAt (Elt F) (Rect.unit (s := S1) ![0] S1.size inb_S1_S1_0).toLoadRect (swstg m ρ c) one0)

/-- 128 rows of the widened `x`, from `off`. -/
def rowsAt (c : Dev nD) (off : Fin 2 → ℕ) (inb : ∀ a, off a + S128x128.size a ≤ S4096x128.size a) : Vec F S128x128 .bf16 :=
  xbM.view.readAt (Elt F) (Rect.unit (s := S4096x128) off S128x128.size inb).toLoadRect (xb m ρ c)

/-- The partial product of 128 rows. -/
def partialMul (a : Vec F S128x128 .bf16) (b : Vec F S128x2048 .bf16) : FVec F S128x2048 .f32 :=
  matmul dot_S128x128_S128x2048_S128x2048_1_0_0_1_n_n none a b (constant S128x2048 .f32 0x00000000#32)

/-- The chunk device `c` holds before hop `t`: its own partial product first; then what arrives from the device before it,
    to which it adds its own partial product in the first 31 hops. -/
def chunk : ℕ → Dev nD → FVec F S128x2048 .f32
  | 0, c => partialMul (rowsAt m ρ c (k0_off1 c) (k0_off1_inb c)) (wb m ρ c)
  | t + 1, c => if t < 31 then
      addf (chunk t (prv c)) (partialMul (rowsAt m ρ c (k0_off2 c (BitVec.ofNat 32 (hopIx t).val)) (k0_off2_inb c (hopIx t))) (wb m ρ c))
    else chunk t (prv c)

/-! ## Slots -/

/-- A device's slot at contents that read `X`; -/
def slotHas (c : Dev nD) (k : Fin 2) (X : FVec F S128x2048 .f32) : sProp 𝕄 :=
  iprop(∃ f : Buf (Elt F) ((slotM k).view.loc (c : Thread nD τ)), ⌜(slotM k).view.read (Elt F) f = X⌝
    ∗ ((slotM k).view.loc (c : Thread nD τ) ↦[(slotM k).view.set]{fullShare} f))
/-- at any contents. -/
def slotAny (c : Dev nD) (k : Fin 2) : sProp 𝕄 :=
  iprop(∃ f : Buf (Elt F) ((slotM k).view.loc (c : Thread nD τ)), (slotM k).view.loc (c : Thread nD τ) ↦[(slotM k).view.set]{fullShare} f)

omit [FloatOps F] in
theorem slotHas_any (c : Dev nD) (k : Fin 2) (X : FVec F S128x2048 .f32) : slotHas (F := F) c k X ⊢ slotAny (F := F) c k := by
  unfold slotHas slotAny
  iintro ⟨%f, -, H⟩
  iexists f; iexact H

omit [FloatOps F] in
instance slotHas_storable (c : Dev nD) (k : Fin 2) (X : FVec F S128x2048 .f32) : BI.Storable (upEmb : UEmb _ 𝕄) (slotHas (F := F) c k X) := by
  unfold slotHas; infer_instance
omit [FloatOps F] in
instance slotAny_storable (c : Dev nD) (k : Fin 2) : BI.Storable (upEmb : UEmb _ 𝕄) (slotAny (F := F) c k) := by
  unfold slotAny; infer_instance

/-! ## The schedule -/

/-- Round `t` of a credit cell brings the next device's free slot and that it waits there. -/
def credPay (c : Dev nD) (t : ℕ) : sProp 𝕄 :=
  iprop(slotAny (F := F) (nxt c) (dst t) ∗ reached ER (recvCell (nxt c) (dst t)) (t / 2))
/-- A receive round brings the chunk of the device before, and that it has taken the hop's credit. -/
def recvPay (c : Dev nD) (k : Fin 2) (t : ℕ) : sProp 𝕄 :=
  iprop(slotHas c k (chunk m ρ t (prv c)) ∗ reached ER (credCell (prv c)) (t + 1))
/-- A send round brings the sent slot back. -/
def sendPay (c : Dev nD) (k : Fin 2) (t : ℕ) : sProp 𝕄 := slotHas c k (chunk m ρ t c)

/-- The duties of a device's cell. -/
def dutiesOf (sm : SemLoc sig) (r : ℕ) : Finset Bool :=
  if sm = .reg barS then (if r = 0 then Finset.univ else ∅)
  else if sm = .reg credS then (if r < 62 then {false} else ∅)
  else if (∃ k : Fin 2, sm = .dma (sendS k)) ∨ (∃ k : Fin 2, sm = .dma (recvS k)) then (if r < 31 then {false} else ∅)
  else ∅

/-- Barrier: one round, a unit from either neighbour. Credit: 62 rounds of one unit. Each slot's send and receive cell:
    31 rounds of a chunk's amount. -/
def ringRd : Rounds.Schedule (GSem nD τ sig) Bool 𝕄 where
  duties g r := if g.1.2 = .tc then dutiesOf g.2 r else ∅
  unitless _ := False
  amount g _ _ := match g.2 with
    | .reg _ => 1
    | .dma _ => N
  payload g r _ :=
    if g.2 = .reg credS then credPay g.1.1 r
    else if g.2 = .dma (sendS 0) then sendPay m ρ g.1.1 0 (hopS 0 r)
    else if g.2 = .dma (sendS 1) then sendPay m ρ g.1.1 1 (hopS 1 r)
    else if g.2 = .dma (recvS 0) then recvPay m ρ g.1.1 0 (hopR 0 r)
    else if g.2 = .dma (recvS 1) then recvPay m ρ g.1.1 1 (hopR 1 r)
    else iprop(emp)
  amount_pos g _ _ _ := by
    rcases g with ⟨_, sm | sm⟩
    · exact Nat.one_pos
    · exact N_pos

instance ringRd_payload_storable (g : GSem nD τ sig) (r : ℕ) (d : Bool) :
    BI.Storable (upEmb : UEmb _ 𝕄) ((ringRd (F := F) m ρ).payload g r d) := by
  show BI.Storable upEmb (if g.2 = .reg credS then credPay g.1.1 r
    else if g.2 = .dma (sendS 0) then sendPay m ρ g.1.1 0 (hopS 0 r)
    else if g.2 = .dma (sendS 1) then sendPay m ρ g.1.1 1 (hopS 1 r)
    else if g.2 = .dma (recvS 0) then recvPay m ρ g.1.1 0 (hopR 0 r)
    else if g.2 = .dma (recvS 1) then recvPay m ρ g.1.1 1 (hopR 1 r)
    else iprop(emp))
  unfold credPay recvPay sendPay
  (repeat' split) <;> infer_instance

section Sched
variable (c : Dev nD) (k : Fin 2) (r : ℕ)

theorem duties_bar : (ringRd (F := F) m ρ).duties (barCell c) 0 = Finset.univ := by
  dsimp only [ringRd, dutiesOf]; rw [if_pos rfl, if_pos rfl, if_pos rfl]
theorem duties_cred (h : r < 62) : (ringRd (F := F) m ρ).duties (credCell c) r = {false} := by
  dsimp only [ringRd, dutiesOf]; rw [if_pos rfl, if_neg cred_ne_bar, if_pos rfl, if_pos h]
theorem duties_send (h : r < 31) : (ringRd (F := F) m ρ).duties (sendCell c k) r = {false} := by
  dsimp only [ringRd, dutiesOf]; rw [if_pos rfl, if_neg (send_ne_bar k), if_neg (send_ne_cred k), if_pos (.inl ⟨k, rfl⟩), if_pos h]
theorem duties_recv (h : r < 31) : (ringRd (F := F) m ρ).duties (recvCell c k) r = {false} := by
  dsimp only [ringRd, dutiesOf]; rw [if_pos rfl, if_neg (recv_ne_bar k), if_neg (recv_ne_cred k), if_pos (.inr ⟨k, rfl⟩), if_pos h]

theorem later_bar : ∀ r, 1 ≤ r → (ringRd (F := F) m ρ).duties (barCell c) r = ∅ := fun r hr => by
  dsimp only [ringRd, dutiesOf]; rw [if_pos rfl, if_pos rfl, if_neg (by omega)]
theorem later_cred : ∀ r, 62 ≤ r → (ringRd (F := F) m ρ).duties (credCell c) r = ∅ := fun r hr => by
  dsimp only [ringRd, dutiesOf]; rw [if_pos rfl, if_neg cred_ne_bar, if_pos rfl, if_neg (by omega)]
theorem later_send : ∀ r, 31 ≤ r → (ringRd (F := F) m ρ).duties (sendCell c k) r = ∅ := fun r hr => by
  dsimp only [ringRd, dutiesOf]; rw [if_pos rfl, if_neg (send_ne_bar k), if_neg (send_ne_cred k), if_pos (.inl ⟨k, rfl⟩), if_neg (by omega)]
theorem later_recv : ∀ r, 31 ≤ r → (ringRd (F := F) m ρ).duties (recvCell c k) r = ∅ := fun r hr => by
  dsimp only [ringRd, dutiesOf]; rw [if_pos rfl, if_neg (recv_ne_bar k), if_neg (recv_ne_cred k), if_pos (.inr ⟨k, rfl⟩), if_neg (by omega)]

theorem amount_bar (d : Bool) : (ringRd (F := F) m ρ).amount (barCell c) r d = 1 := rfl
theorem amount_cred (d : Bool) : (ringRd (F := F) m ρ).amount (credCell c) r d = 1 := rfl
theorem amount_send (d : Bool) : (ringRd (F := F) m ρ).amount (sendCell c k) r d = N := rfl
theorem amount_recv (d : Bool) : (ringRd (F := F) m ρ).amount (recvCell c k) r d = N := rfl

theorem expect_bar : (ringRd (F := F) m ρ).expect (barCell c) 0 = 2 := by
  unfold Schedule.expect Schedule.amountOf
  rw [duties_bar, Finset.sum_congr rfl fun d _ => amount_bar m ρ c 0 d, Finset.sum_const, Finset.card_univ, Fintype.card_bool, smul_eq_mul]
theorem expect_cred (h : r < 62) : (ringRd (F := F) m ρ).expect (credCell c) r = 1 := by
  unfold Schedule.expect Schedule.amountOf; rw [duties_cred m ρ c r h, Finset.sum_singleton]; rfl
theorem expect_send (h : r < 31) : (ringRd (F := F) m ρ).expect (sendCell c k) r = N := by
  unfold Schedule.expect Schedule.amountOf; rw [duties_send m ρ c k r h, Finset.sum_singleton]; rfl
theorem expect_recv (h : r < 31) : (ringRd (F := F) m ρ).expect (recvCell c k) r = N := by
  unfold Schedule.expect Schedule.amountOf; rw [duties_recv m ρ c k r h, Finset.sum_singleton]; rfl

theorem payload_bar (d : Bool) : (ringRd (F := F) m ρ).payload (barCell c) r d = iprop(emp) := by
  dsimp only [ringRd]
  rw [if_neg bar_ne_cred, if_neg (send_ne_bar 0).symm, if_neg (send_ne_bar 1).symm, if_neg (recv_ne_bar 0).symm, if_neg (recv_ne_bar 1).symm]
theorem payload_cred (d : Bool) : (ringRd (F := F) m ρ).payload (credCell c) r d = credPay c r := by
  dsimp only [ringRd]; rw [if_pos rfl]
theorem payload_send (d : Bool) : (ringRd (F := F) m ρ).payload (sendCell c k) r d = sendPay m ρ c k (hopS k r) := by
  fin_cases k
  · dsimp only [ringRd]; rw [if_neg (send_ne_cred _)]; exact if_pos rfl
  · dsimp only [ringRd]; rw [if_neg (send_ne_cred _), if_neg (fun h => absurd (send_inj _ _ h) (by decide))]; exact if_pos rfl
theorem payload_recv (d : Bool) : (ringRd (F := F) m ρ).payload (recvCell c k) r d = recvPay m ρ c k (hopR k r) := by
  fin_cases k
  · dsimp only [ringRd]; rw [if_neg (recv_ne_cred _), if_neg (recv_ne_send _ _), if_neg (recv_ne_send _ _)]; exact if_pos rfl
  · dsimp only [ringRd]
    rw [if_neg (recv_ne_cred _), if_neg (recv_ne_send _ _), if_neg (recv_ne_send _ _), if_neg (fun h => absurd (recv_inj _ _ h) (by decide))]
    exact if_pos rfl

theorem rest_cred (h : r < 62) :
    bigSep ((ringRd (F := F) m ρ).duties (credCell c) r \ ∅) (fun d => (ringRd (F := F) m ρ).payload (credCell c) r d) = credPay c r := by
  rw [Finset.sdiff_empty, duties_cred m ρ c r h, bigSep_singleton, payload_cred]
theorem rest_send (h : r < 31) :
    bigSep ((ringRd (F := F) m ρ).duties (sendCell c k) r \ ∅) (fun d => (ringRd (F := F) m ρ).payload (sendCell c k) r d)
      = sendPay m ρ c k (hopS k r) := by
  rw [Finset.sdiff_empty, duties_send m ρ c k r h, bigSep_singleton, payload_send]
theorem rest_recv (h : r < 31) :
    bigSep ((ringRd (F := F) m ρ).duties (recvCell c k) r \ ∅) (fun d => (ringRd (F := F) m ρ).payload (recvCell c k) r d)
      = recvPay m ρ c k (hopR k r) := by
  rw [Finset.sdiff_empty, duties_recv m ρ c k r h, bigSep_singleton, payload_recv]

end Sched

/-! ## What a device owes; the levels -/

/-- What device `c` owes before hop `t`: to the device after it the chunk of every hop left, to the device before it the
    credit of every hop left. -/
def owe (c : Dev nD) (t : ℕ) : CellTallies nD τ sig ℕ :=
  ∑ u ∈ Finset.Ico t 62, (tallyAt (recvCell (nxt c) (dst u)) u N + tallyAt (credCell (prv c)) u 1)

/-- At launch: that and a unit to the barrier of either neighbour. -/
def O₁ (c : Dev nD) : CellTallies nD τ sig ℕ := owe c 0 + tallyAt (barCell (nxt c)) 0 1
def O₀ (c : Dev nD) : CellTallies nD τ sig ℕ := O₁ c + tallyAt (barCell (prv c)) 0 1

theorem hops_step (t : ℕ) (h : t < 62) : Finset.Ico t 62 = insert t (Finset.Ico (t + 1) 62) := by
  ext u; simp only [Finset.mem_Ico, Finset.mem_insert]; omega

theorem owe_step (c : Dev nD) (t : ℕ) (h : t < 62) :
    owe c t = (owe c (t + 1) + tallyAt (recvCell (nxt c) (dst t)) t N) + tallyAt (credCell (prv c)) t 1 := by
  unfold owe
  rw [hops_step t h, Finset.sum_insert (by simp), add_comm, add_assoc]
theorem owe_end (c : Dev nD) : owe c 62 = 0 := by unfold owe; rw [Finset.Ico_self, Finset.sum_empty]

theorem owe_pos {c : Dev nD} {t : ℕ} {g : GSem nD τ sig} {u : ℕ} (h : 0 < owe c t g u) :
    t ≤ u ∧ u < 62 ∧ (g = recvCell (nxt c) (dst u) ∨ g = credCell (prv c)) := by
  unfold owe at h
  rw [Finset.sum_apply, Finsupp.finset_sum_apply] at h
  obtain ⟨v, hv, hp⟩ := Finset.exists_ne_zero_of_sum_ne_zero (Nat.pos_iff_ne_zero.mp h)
  rw [Finset.mem_Ico] at hv
  rw [Pi.add_apply, Finsupp.add_apply, tallyAt_apply, tallyAt_apply] at hp
  by_cases h1 : g = recvCell (nxt c) (dst v) ∧ u = v
  · rw [h1.2]; exact ⟨hv.1, hv.2, .inl h1.1⟩
  · by_cases h2 : g = credCell (prv c) ∧ u = v
    · rw [h2.2]; exact ⟨hv.1, hv.2, .inr h2.1⟩
    · rw [if_neg h1, if_neg h2] at hp; exact absurd rfl hp

/-- The hop numbers a device's cells are indexed by; -/
def L (g : GSem nD τ sig) : Finset ℕ := if g.1.2 = .tc then Finset.range 62 else ∅
/-- staging and send cells lowest, then the barrier, then each hop's credit and its receive. -/
def lv (g : GSem nD τ sig) (t : ℕ) : ℕ :=
  if g.2 = .reg barS then 1 else if g.2 = .reg credS then 2 * t + 2 else if ∃ k : Fin 2, g.2 = .dma (recvS k) then 2 * t + 3 else 0

theorem L_of_ne (g : GSem nD τ sig) (h : g.1.2 ≠ .tc) : L g = ∅ := if_neg h
theorem L_tc (c : Dev nD) (sm : SemLoc sig) : L ((c : Thread nD τ), sm) = Finset.range 62 := if_pos rfl

theorem lv_bar (c : Dev nD) (t : ℕ) : lv (barCell c) t = 1 := by unfold lv; rw [if_pos rfl]
theorem lv_cred (c : Dev nD) (t : ℕ) : lv (credCell c) t = 2 * t + 2 := by unfold lv; rw [if_neg cred_ne_bar, if_pos rfl]
theorem lv_recv (c : Dev nD) (k : Fin 2) (t : ℕ) : lv (recvCell c k) t = 2 * t + 3 := by
  unfold lv; rw [if_neg (recv_ne_bar k), if_neg (recv_ne_cred k), if_pos ⟨k, rfl⟩]
theorem lv_low (c : Dev nD) (q : DmaSem sig) (hq : ∀ k : Fin 2, q ≠ recvS k) (t : ℕ) : lv ((c : Thread nD τ), .dma q) t = 0 := by
  unfold lv
  rw [if_neg (fun h => by cases h), if_neg (fun h => by cases h), if_neg (fun ⟨k, h⟩ => hq k (SemLoc.dma.inj h))]

/-- Waiting on a cell at index `i` is allowed while everything owed is at hops and above the cell's level. -/
theorem mayWait (c : Dev nD) (sm : SemLoc sig) (i : ℕ) (hi : i < 62) (O : CellTallies nD τ sig ℕ)
    (hO : ∀ g u, 0 < O g u → g.1.2 = .tc ∧ u < 62 ∧ lv ((c : Thread nD τ), sm) i < lv g u) :
    (levAts L lv : sProp 𝕄) ⊢ MayWait (c : Thread nD τ) sm i O :=
  MayOwe.of_cut (L := L) (lev := lv) (lv ((c : Thread nD τ), sm) i)
    (fun p hp => by rw [Finset.mem_singleton.mp hp, L_tc]; exact Finset.mem_range.mpr hi)
    (fun g u hg => by unfold L; rw [if_pos (hO g u hg).1]; exact Finset.mem_range.mpr (hO g u hg).2.1)
    (fun p hp => by rw [Finset.mem_singleton.mp hp])
    (fun g u hg => (hO g u hg).2.2)

theorem owe_level {c : Dev nD} {t : ℕ} {g : GSem nD τ sig} {u : ℕ} (h : 0 < owe c t g u) :
    g.1.2 = .tc ∧ u < 62 ∧ 2 * t + 1 < lv g u := by
  obtain ⟨h1, h2, rfl | rfl⟩ := owe_pos h
  · exact ⟨rfl, h2, by rw [lv_recv]; omega⟩
  · exact ⟨rfl, h2, by rw [lv_cred]; omega⟩

end Cert.KernelIdeal.Ring

end
-- ==== Proof.Hop.lean ====
/-
  One hop of the ring, at any hop number: what a device holds before it, and that the hop's signal, waits and transfer take
  it to what it holds before the next.
-/
module

public import proofs.«01_k».proof.Proof.Protocol

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

abbrev 𝒱₀ : Variants := Variants.none

variable (K : Dev nD × Fin 6 → ℕ)

/-! ## The invariants a device opens -/

/-- Its own cells, its neighbours' barriers, the credit of the device before and the receive cells of the device after. -/
def invs (c : Dev nD) : sProp 𝕄 :=
  iprop(cellInv ER (ringRd m ρ) (K (c, 0)) (barCell c) ∗ cellInv ER (ringRd m ρ) (K (c, 1)) (credCell c)
    ∗ (cellInv ER (ringRd m ρ) (K (c, sendIx 0)) (sendCell c 0) ∗ cellInv ER (ringRd m ρ) (K (c, sendIx 1)) (sendCell c 1))
    ∗ (cellInv ER (ringRd m ρ) (K (c, recvIx 0)) (recvCell c 0) ∗ cellInv ER (ringRd m ρ) (K (c, recvIx 1)) (recvCell c 1))
    ∗ cellInv ER (ringRd m ρ) (K (prv c, 0)) (barCell (prv c)) ∗ cellInv ER (ringRd m ρ) (K (nxt c, 0)) (barCell (nxt c))
    ∗ cellInv ER (ringRd m ρ) (K (prv c, 1)) (credCell (prv c))
    ∗ (cellInv ER (ringRd m ρ) (K (nxt c, recvIx 0)) (recvCell (nxt c) 0) ∗ cellInv ER (ringRd m ρ) (K (nxt c, recvIx 1)) (recvCell (nxt c) 1)))

instance invs_persistent (c : Dev nD) : BI.Persistent (invs (F := F) m ρ K c) := by unfold invs; infer_instance

theorem inv_cred (c : Dev nD) : invs (F := F) m ρ K c ⊢ cellInv ER (ringRd m ρ) (K (c, 1)) (credCell c) := by
  unfold invs; iintro ⟨-, H, -⟩; iexact H
theorem inv_credP (c : Dev nD) : invs (F := F) m ρ K c ⊢ cellInv ER (ringRd m ρ) (K (prv c, 1)) (credCell (prv c)) := by
  unfold invs; iintro ⟨-, -, -, -, -, -, H, -⟩; iexact H
theorem inv_send (c : Dev nD) (k : Fin 2) : invs (F := F) m ρ K c ⊢ cellInv ER (ringRd m ρ) (K (c, sendIx k)) (sendCell c k) := by
  unfold invs
  match k with
  | 0 => iintro ⟨-, -, ⟨H, -⟩, -⟩; iexact H
  | 1 => iintro ⟨-, -, ⟨-, H⟩, -⟩; iexact H
theorem inv_recv (c : Dev nD) (k : Fin 2) : invs (F := F) m ρ K c ⊢ cellInv ER (ringRd m ρ) (K (c, recvIx k)) (recvCell c k) := by
  unfold invs
  match k with
  | 0 => iintro ⟨-, -, -, ⟨H, -⟩, -⟩; iexact H
  | 1 => iintro ⟨-, -, -, ⟨-, H⟩, -⟩; iexact H
theorem inv_recvN (c : Dev nD) (k : Fin 2) : invs (F := F) m ρ K c ⊢ cellInv ER (ringRd m ρ) (K (nxt c, recvIx k)) (recvCell (nxt c) k) := by
  unfold invs
  match k with
  | 0 => iintro ⟨-, -, -, -, -, -, -, ⟨H, -⟩⟩; iexact H
  | 1 => iintro ⟨-, -, -, -, -, -, -, ⟨-, H⟩⟩; iexact H

/-! ## What a device holds before hop `t`, beside the slots -/

/-- The tokens of one hop: for the credit it gives, the chunk it sends and the two ends of its transfer, and what it may
    wait for. -/
def hopToks (c : Dev nD) (u : ℕ) : sProp 𝕄 :=
  iprop(dutyTok ER (credCell (prv c)) u false ∗ dutyTok ER (recvCell (nxt c) (dst u)) (u / 2) false
    ∗ dutyTok ER (sendCell c (src u)) (u / 2) false
    ∗ cred (tallyAt (credCell c) u 1) ∗ cred (tallyAt (recvCell c (dst u)) u N))

/-- Where its cells stand. -/
def spots (c : Dev nD) (t : ℕ) : sProp 𝕄 :=
  iprop(atPos ER (credCell c) t ∅ 0
    ∗ atPos ER (sendCell c (src t)) (t / 2) ∅ 0 ∗ atPos ER (sendCell c (dst t)) ((t + 1) / 2) ∅ 0
    ∗ atPos ER (recvCell c (dst t)) (t / 2) ∅ 0 ∗ atPos ER (recvCell c (src t)) ((t + 1) / 2) ∅ 0)

/-- The rounds it knows to be reached. -/
def marks (c : Dev nD) (t : ℕ) : sProp 𝕄 :=
  iprop(reached ER (credCell (prv c)) t
    ∗ reached ER (sendCell c (src t)) (t / 2) ∗ reached ER (sendCell c (dst t)) ((t + 1) / 2)
    ∗ reached ER (recvCell c (dst t)) (t / 2) ∗ reached ER (recvCell c (src t)) ((t + 1) / 2))

def ctl (c : Dev nD) (t : ℕ) : sProp 𝕄 :=
  iprop(spots c t ∗ marks c t ∗ bigSep (Finset.Ico t 62) (hopToks (F := F) c) ∗ ∃ W, owes (c : Thread nD τ) (owe c t) W)

theorem toks_step (c : Dev nD) (t : ℕ) (h : t < 62) :
    bigSep (Finset.Ico t 62) (hopToks (F := F) c) = iprop(hopToks c t ∗ bigSep (Finset.Ico (t + 1) 62) (hopToks c)) := by
  rw [hops_step t h]; exact BI.bigSep_insert (by simp)

/-! ## The transfer -/

/-- The transfer from slot `src t` to `n = nxt c`'s slot `dst t`. -/
theorem wp_send_hop (c n : Dev nD) (hn : n = nxt c) (t : ℕ) (h : t < 62)
    {hsc : (slotM (dst t) : Memref sig (Dev.tc n : Thread nD τ).2.kind .vmem S128x2048 .f32).view.ref.isScScratch = false}
    {hsrc : (slotM (src t)).view.WordExact} {hdst : (slotM (dst t)).view.WordExact}
    {hsem : DmaTarget.Typed .vmem (.dma (recvS (dst t))) (.remote (Dev.tc n : Thread nD τ) (slotM (dst t)) (.dma (sendS (src t))) hsc)}
    {α : Type} {Q : α → sProp 𝕄} {k : PUnit → Prog (TpuEff nD τ sig (Elt F) Λ₀ .tc) α} (W : Waits sig ℕ) :
    iprop(cellInv ER (ringRd m ρ) (K (c, sendIx (src t))) (sendCell c (src t))
        ∗ cellInv ER (ringRd m ρ) (K (nxt c, recvIx (dst t))) (recvCell (nxt c) (dst t))
        ∗ slotHas c (src t) (chunk m ρ t c) ∗ slotAny (F := F) (nxt c) (dst t) ∗ reached ER (credCell c) (t + 1)
        ∗ owes (c : Thread nD τ) (owe c (t + 1) + tallyAt (recvCell (nxt c) (dst t)) t N) W
        ∗ dutyTok ER (sendCell c (src t)) (t / 2) false ∗ reached ER (sendCell c (src t)) (t / 2)
        ∗ dutyTok ER (recvCell (nxt c) (dst t)) (t / 2) false ∗ reached ER (recvCell (nxt c) (dst t)) (t / 2))
      ⊢ iprop(((cred (tallyAt (sendCell c (src t)) 0 N) ∗ owes (c : Thread nD τ) (owe c (t + 1)) W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM (src t)) (.remote (Dev.tc n : Thread nD τ) (slotM (dst t)) (.dma (sendS (src t))) hsc)
                (.dma (recvS (dst t))) hsrc hdst hsem) k) Q) := by
  subst hn
  iintro ⟨#HI1, #HI2, Hs, Hd, #Hr, HO, Ht1, #Hr1, Ht2, #Hr2⟩ Hk
  unfold slotHas slotAny
  icases Hs with ⟨%fs, %hfs, Hs⟩
  icases Hd with ⟨%fd, Hd⟩
  iapply (Rounds.wp_send_pointsTo_with 𝒱₀ ER (ringRd m ρ) (c : Thread nD τ) none (κ₁ := K (c, sendIx (src t))) (κ₂ := K (nxt c, recvIx (dst t)))
    (r₁ := t / 2) (r₂ := t / 2) (d₁ := false) (d₂ := false) (fd := fd) (F := reached ER (credCell c) (t + 1))
    (by rw [duties_send m ρ c (src t) (t / 2) (by omega)]; exact Finset.mem_singleton_self _)
    (by rw [duties_recv m ρ (nxt c) (dst t) (t / 2) (by omega)]; exact Finset.mem_singleton_self _)
    t 0 N rfl (amount_send m ρ c (src t) (t / 2) false) (amount_recv m ρ (nxt c) (dst t) (t / 2) false) (owe c (t + 1)) rfl (W := W)
    (by
      rw [payload_send, hopS_src]; unfold sendPay slotHas
      iintro H; iexists fs; isplitr; · (ipureintro; exact hfs)
      iexact H)
    (by
      rw [payload_recv, hopR_dst]; unfold recvPay slotHas; rw [prv_nxt]
      iintro ⟨H, Hr⟩
      isplitl [H]
      · iexists ((slotM (dst t)).view.write (Elt F) fd ((slotM (src t)).view.read (Elt F) fs) Finset.univ)
        isplitr; · (ipureintro; rw [View.read_write_univ, hfs])
        iexact H
      · iexact Hr)) $$ [Hs Hd HO Ht1 Ht2]
  · isplitr; · iexact HI1
    isplitr; · iexact HI2
    isplitl [Hs]; · iexact Hs
    isplitl [Hd]
    · isplitl [Hd]; · iexact Hd
      iexact Hr
    isplitl [HO]; · iexact HO
    isplitl [Ht1]; · iexact Ht1
    isplitr; · iexact Hr1
    isplitl [Ht2]; · iexact Ht2
    iexact Hr2
  iexact Hk

/-! ## The hop -/

set_option maxHeartbeats 1600000 in
/-- A hop takes a device from what it holds before hop `t` to what it holds before the next, the chunk of the device before
    it in slot `dst t`. -/
theorem wp_move (c : Dev nD) (t : ℕ) (h : t < 62) (rest : Pg F) (Q : PUnit → sProp 𝕄) :
    iprop(invs m ρ K c ∗ levAts L lv ∗ ctl c t ∗ slotHas c (src t) (chunk m ρ t c) ∗ slotAny (F := F) c (dst t))
      ⊢ iprop(((ctl c (t + 1) ∗ slotHas c (src t) (chunk m ρ t c) ∗ slotHas c (dst t) (chunk m ρ t (prv c)))
            -∗ wp frame (wpE (defs₀ (F := F)) 𝒱₀ (c : Thread nD τ) none) Set.univ rest Q)
          -∗ wp frame (wpE (defs₀ (F := F)) 𝒱₀ (c : Thread nD τ) none) Set.univ (move c (src t) (dst t) rest) Q) := by
  unfold move
  simp only [semSignalWord, semWaitWord, Prog.lift, Prog.bind_op, Prog.bind_ret, Prog.pure_eq_ret, dev3_eq c]
  unfold ctl spots marks
  rw [toks_step c t h, owe_step c t h]
  unfold hopToks
  iintro ⟨#Hinv, #Hlev, ⟨⟨HaC, HaS, HaS', HaV, HaV'⟩, ⟨#HrCP, #HrS, #HrS', #HrV, #HrV'⟩, ⟨⟨HtC, HtV, HtS, HcC, HcV⟩, Htoks⟩, ⟨%W, HO⟩⟩, Hsrc, Hdst⟩ Hk
  ihave #HIc := (inv_cred m ρ K c) $$ Hinv
  ihave #HIcP := (inv_credP m ρ K c) $$ Hinv
  ihave #HIs := (inv_send m ρ K c (src t)) $$ Hinv
  ihave #HIv := (inv_recv m ρ K c (dst t)) $$ Hinv
  ihave #HIvN := (inv_recvN m ρ K c (dst t)) $$ Hinv
  -- the credit of the device before, with the free slot
  iapply (Rounds.wp_signal 𝒱₀ ER (ringRd m ρ) (c : Thread nD τ) none (dst := (prv c : Thread nD τ)) (κ := K (prv c, 1))
      (d := false) (by rw [duties_cred m ρ (prv c) t h]; exact Finset.mem_singleton_self _)
      ((amount_cred m ρ (prv c) t false).trans (by decide)) t
      (owe c (t + 1) + tallyAt (recvCell (nxt c) (dst t)) t N) rfl) $$ [HO HtC Hdst]
  · isplitr; · iexact HIcP
    isplitl [HO]; · iexact HO
    isplitl [HtC]; · iexact HtC
    isplitl [Hdst]
    · rw [payload_cred]; unfold credPay; rw [nxt_prv]
      isplitl [Hdst]; · iexact Hdst
      iexact HrV
    · iexact HrCP
  iintro HO
  -- its own credit
  iapply (Rounds.wp_wait_rest_token 𝒱₀ ER (ringRd m ρ) (c : Thread nD τ) none (κ := K (c, 1))
      (wpE_semWait_eq 𝒱₀ (c : Thread nD τ) none Set.univ) (Set.mem_univ _) t
      (O := owe c (t + 1) + tallyAt (recvCell (nxt c) (dst t)) t N) (W := W) (R := t) (m := 0) (T := ∅)
      (by rw [expect_cred m ρ c t h]; decide)) $$ [HcC HO HaC]
  · isplitr; · iexact HIc
    isplitl [HcC]; · iexact HcC
    isplitl [HO]; · iexact HO
    isplitr
    · iapply (mayWait c (.reg credS) t h _ (fun g u hg => by
        rw [lv_cred]
        rw [Pi.add_apply, Finsupp.add_apply, tallyAt_apply] at hg
        by_cases hp : 0 < owe c (t + 1) g u
        · obtain ⟨h1, h2, h3⟩ := owe_level hp; exact ⟨h1, h2, by omega⟩
        · by_cases hq : g = recvCell (nxt c) (dst t) ∧ u = t
          · obtain ⟨rfl, rfl⟩ := hq; exact ⟨rfl, h, by rw [lv_recv]; omega⟩
          · rw [if_neg hq] at hg; exact absurd hg (by omega)))
      iexact Hlev
    iexact HaC
  iintro ⟨HO, HaC, #HrC, Hpay⟩
  ihave Hp := (Entails.of_eq (rest_cred m ρ c t h)) $$ Hpay
  unfold credPay
  icases Hp with ⟨HslotN, #HrVN⟩
  -- the transfer
  iapply (wp_send_hop m ρ K c _ (dev4_eq c) t h _) $$ [Hsrc HslotN HO HtS HtV]
  · isplitr; · iexact HIs
    isplitr; · iexact HIvN
    isplitl [Hsrc]; · iexact Hsrc
    isplitl [HslotN]; · iexact HslotN
    isplitr; · iexact HrC
    isplitl [HO]; · iexact HO
    isplitl [HtS]; · iexact HtS
    isplitr; · iexact HrS
    isplitl [HtV]; · iexact HtV
    iexact HrVN
  iintro ⟨HcS, HO⟩
  -- the sent slot comes back
  iapply (Rounds.wp_wait_rest_token 𝒱₀ ER (ringRd m ρ) (c : Thread nD τ) none (κ := K (c, sendIx (src t)))
      (wpE_waitDma2_eq 𝒱₀ (c : Thread nD τ) none Set.univ) (Set.mem_univ _) 0 (O := owe c (t + 1)) (R := t / 2) (m := 0) (T := ∅)
      (by rw [Nat.zero_add, expect_send m ρ c (src t) (t / 2) (by omega)])) $$ [HcS HO HaS]
  · isplitr; · iexact HIs
    isplitl [HcS]; · iexact HcS
    isplitl [HO]; · iexact HO
    isplitr
    · iapply (mayWait c (.dma (sendS (src t))) 0 (by decide) _ (fun g u hg => by
        obtain ⟨h1, h2, h3⟩ := owe_level hg
        exact ⟨h1, h2, by rw [lv_low c (sendS (src t)) (fun k hk => send_ne_recv (src t) k (congrArg SemLoc.dma hk))]; omega⟩))
      iexact Hlev
    iexact HaS
  iintro ⟨HO, HaS, #HrSn, Hpay⟩
  ihave Hsrc := (Entails.of_eq ((rest_send m ρ c (src t) (t / 2) (by omega)).trans (by rw [hopS_src]))) $$ Hpay
  -- the chunk of the device before arrives
  iapply (Rounds.wp_wait_rest_token 𝒱₀ ER (ringRd m ρ) (c : Thread nD τ) none (κ := K (c, recvIx (dst t)))
      (wpE_waitDma2_eq 𝒱₀ (c : Thread nD τ) none Set.univ) (Set.mem_univ _) t (O := owe c (t + 1)) (R := t / 2) (m := 0) (T := ∅)
      (by rw [Nat.zero_add, expect_recv m ρ c (dst t) (t / 2) (by omega)])) $$ [HcV HO HaV]
  · isplitr; · iexact HIv
    isplitl [HcV]; · iexact HcV
    isplitl [HO]; · iexact HO
    isplitr
    · iapply (mayWait c (.dma (recvS (dst t))) t h _ (fun g u hg => by
        obtain ⟨h1, h2, h3⟩ := owe_level hg
        exact ⟨h1, h2, by rw [lv_recv]; omega⟩))
      iexact Hlev
    iexact HaV
  iintro ⟨HO, HaV, #HrVn, Hpay⟩
  ihave Hp := (Entails.of_eq ((rest_recv m ρ c (dst t) (t / 2) (by omega)).trans (by rw [hopR_dst]))) $$ Hpay
  unfold recvPay
  icases Hp with ⟨Hdst, #HrCPn⟩
  iapply Hk
  rw [dst_succ t, show (t + 1 + 1) / 2 = t / 2 + 1 by omega]
  isplitl [HaC HaS HaS' HaV HaV' Htoks HO]
  · isplitl [HaC HaS HaS' HaV HaV']
    · isplitl [HaC]; · iexact HaC
      isplitl [HaS']; · iexact HaS'
      isplitl [HaS]; · iexact HaS
      isplitl [HaV']; · iexact HaV'
      iexact HaV
    isplitr
    · isplitr; · iexact HrCPn
      isplitr; · iexact HrS'
      isplitr; · iexact HrSn
      isplitr; · iexact HrV'
      iexact HrVn
    isplitl [Htoks]; · iexact Htoks
    iexists _; iexact HO
  isplitl [Hsrc]; · unfold sendPay; iexact Hsrc
  iexact Hdst

end Cert.KernelIdeal.Ring

end
-- ==== Proof.Phases.lean ====
/-
  The two phases of the ring, by induction on the hops left: in the first every arriving chunk gets the device's own partial
  product, in the second every arriving chunk is scaled into its rows of the output.
-/
module

public import proofs.«01_k».proof.Proof.Hop

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)
variable (K : Dev nD × Fin 6 → ℕ)

/-! ## Loads and stores of a slot -/

/-- The elements of a slot, through the buffer's rectangle and through the chunk's buffer. -/
theorem slot_set (k : Fin 2) : (commM : Memref sig .tc .vmem S2x128x2048 .f32).view.setOn (slotR k).toLoadRect.set ⊆ (slotM k).view.set := by
  have h : (slotM k).view.set = ((commM : Memref sig .tc .vmem S2x128x2048 .f32).view.slice (slotR k)).set := View.set_reshape _ _
  rw [h, View.set_slice]; exact subset_rfl
theorem slot_setOn (k : Fin 2) : ((commM : Memref sig .tc .vmem S2x128x2048 .f32).access (slotR k)).setOn Finset.univ ⊆ (slotM k).view.set := by
  have h : (slotM k).view.set = ((commM : Memref sig .tc .vmem S2x128x2048 .f32).view.slice (slotR k)).set := View.set_reshape _ _
  rw [h]; exact subset_rfl

/-- What a slot reads is what a load at its rectangle reads, cast to the chunk's shape. -/
theorem slot_read (k : Fin 2) (f : (cc0_scratch2 : Ref sig .tc).ty.Contents (Elt F)) :
    (slotM k).view.read (Elt F) f
      = shapeCast S128x2048 ((commM : Memref sig .tc .vmem S2x128x2048 .f32).view.readAt (Elt F) (slotR k).toLoadRect f) shapeCasts_S1x128x2048_S128x2048 := rfl

/-- A slot written through the rectangle reads what was written, cast. -/
theorem slot_read_write (k : Fin 2) (f : (cc0_scratch2 : Ref sig .tc).ty.Contents (Elt F)) (w : Vec F S1x128x2048 .f32) :
    (slotM k).view.read (Elt F) (((commM : Memref sig .tc .vmem S2x128x2048 .f32).access (slotR k)).write (Elt F) f w Finset.univ)
      = shapeCast S128x2048 w shapeCasts_S1x128x2048_S128x2048 :=
  (slot_read k _).trans (congrArg (fun v => shapeCast S128x2048 v shapeCasts_S1x128x2048_S128x2048)
    (View.read_write_univ (v := (commM : Memref sig .tc .vmem S2x128x2048 .f32).access (slotR k)) (Val := Elt F) f w))

/-- A load of a slot that holds `X`. -/
theorem wp_slot_load (c : Dev nD) (k : Fin 2) (X : FVec F S128x2048 .f32)
    {hl : (commM : Memref sig .tc .vmem S2x128x2048 .f32).view.LoadsAt (slotR k).toLoadRect}
    (cont : Vec F S1x128x2048 .f32 → Pg F) (Q : PUnit → sProp 𝕄) :
    slotHas c k X ⊢ iprop((slotHas c k X -∗ wp frame (wpE (defs₀ (F := F)) 𝒱₀ (c : Thread nD τ) none) Set.univ
          (cont (shapeCast S1x128x2048 X shapeCasts_S128x2048_S1x128x2048)) Q)
        -∗ wp frame (wpE (defs₀ (F := F)) 𝒱₀ (c : Thread nD τ) none) Set.univ (.op (.load commM (slotR k).toLoadRect hl) cont) Q) := by
  unfold slotHas
  iintro ⟨%f, %hf, H⟩ Hk
  have hv : (commM : Memref sig .tc .vmem S2x128x2048 .f32).view.readAt (Elt F) (slotR k).toLoadRect f
      = shapeCast S1x128x2048 X shapeCasts_S128x2048_S1x128x2048 := by
    rw [← hf, slot_read]; exact (shapeCast_shapeCast _ _ _).symm
  iapply (wp_load 𝒱₀ (c : Thread nD τ) none Set.univ (m := commM) (S := (slotM k).view.set) (slot_set k)) $$ H
  iintro H
  rw [hv]
  iapply Hk
  iexists f; isplitr; · (ipureintro; exact hf)
  iexact H

/-- A store in a slot. -/
theorem wp_slot_store (c : Dev nD) (k : Fin 2) (w : Vec F S1x128x2048 .f32)
    {hx : ((commM : Memref sig .tc .vmem S2x128x2048 .f32).access (slotR k)).Stores Finset.univ}
    {hm : (Finset.univ : Finset (slotR k).shape.Idx) = Finset.univ ∨ ∀ a, (slotR k).stride a = 1}
    (cont : PUnit → Pg F) (Q : PUnit → sProp 𝕄) :
    slotAny (F := F) c k ⊢ iprop((slotHas c k (shapeCast S128x2048 w shapeCasts_S1x128x2048_S128x2048)
          -∗ wp frame (wpE (defs₀ (F := F)) 𝒱₀ (c : Thread nD τ) none) Set.univ (cont ⟨⟩) Q)
        -∗ wp frame (wpE (defs₀ (F := F)) 𝒱₀ (c : Thread nD τ) none) Set.univ (.op (.store commM (slotR k) w Finset.univ hx hm) cont) Q) := by
  unfold slotHas slotAny
  iintro ⟨%f, H⟩ Hk
  iapply (wp_store 𝒱₀ (c : Thread nD τ) none Set.univ (m := commM) (r := slotR k) (Mk := Finset.univ) (S := (slotM k).view.set) (slot_setOn k)) $$ H
  iintro H
  iapply Hk
  iexists (((commM : Memref sig .tc .vmem S2x128x2048 .f32).access (slotR k)).write (Elt F) f w Finset.univ)
  isplitr
  · ipureintro
    exact slot_read_write k f w
  iexact H

/-! ## The first phase -/

/-- The widened inputs in their buffers. -/
def ins (c : Dev nD) : sProp 𝕄 :=
  iprop((((c : Thread nD τ).loc cc0_scratch0) ↦{fullShare} xb m ρ c) ∗ (((c : Thread nD τ).loc cc0_scratch1) ↦{fullShare} wb m ρ c))

theorem hz : (![0, 0] : Fin 2 → Nat) = fun _ => 0 := funext fun a => by fin_cases a <;> rfl
theorem read_wb (f : (cc0_scratch1 : Ref sig .tc).ty.Contents (Elt F)) :
    (wbM : Memref sig .tc .vmem S128x2048 .bf16).view.readAt (Elt F)
      (Rect.unit (s := S128x2048) ![0, 0] S128x2048.size inb_S128x2048_S128x2048_0_0).toLoadRect f = f :=
  Memref.readAt_unit_zero (Elt F) cc0_scratch1 hz _ f

theorem pay6_cast (X : FVec F S128x2048 .f32) (a : Vec F S128x128 .bf16) (b : Vec F S128x2048 .bf16) :
    shapeCast S128x2048 (k0_pay6 (shapeCast S1x128x2048 X shapeCasts_S128x2048_S1x128x2048) a b) shapeCasts_S1x128x2048_S128x2048
      = addf X (partialMul a b) := by
  unfold k0_pay6 partialMul
  dsimp only
  rw [shapeCast_shapeCast, shapeCast_shapeCast]

/-- The arriving chunk gets the device's own partial product. -/
theorem wp_accum (c : Dev nD) (t : ℕ) (h : t < 31) (rest : Pg F) (Q : PUnit → sProp 𝕄) :
    iprop(slotHas c (dst t) (chunk m ρ t (prv c)) ∗ ins m ρ c)
      ⊢ iprop(((slotHas c (dst t) (chunk m ρ (t + 1) c) ∗ ins m ρ c)
            -∗ wp frame (wpE (defs₀ (F := F)) 𝒱₀ (c : Thread nD τ) none) Set.univ rest Q)
          -∗ wp frame (wpE (defs₀ (F := F)) 𝒱₀ (c : Thread nD τ) none) Set.univ (accum c (dst t) t rest) Q) := by
  unfold accum ins
  simp only [Prog.lift, Prog.bind_op, Prog.bind_ret, Prog.pure_eq_ret]
  iintro ⟨Hs, Hx, Hw⟩ Hk
  iapply (wp_slot_load c (dst t) (chunk m ρ t (prv c)) _ _) $$ Hs; iintro Hs
  iapply (wp_load 𝒱₀ (c : Thread nD τ) none Set.univ (m := xbM) (Finset.subset_univ _)) $$ Hx; iintro Hx
  iapply (wp_load 𝒱₀ (c : Thread nD τ) none Set.univ (m := wbM) (Finset.subset_univ _)) $$ Hw; iintro Hw
  rw [read_wb]
  iapply (wp_slot_load c (dst t) (chunk m ρ t (prv c)) _ _) $$ Hs; iintro Hs
  ihave Hs := (slotHas_any c (dst t) _) $$ Hs
  iapply (wp_slot_store c (dst t) _ _ _) $$ Hs; iintro Hs
  iapply Hk
  isplitl [Hs]
  · rw [pay6_cast, show chunk m ρ (t + 1) c = addf (chunk m ρ t (prv c)) (partialMul (rowsAt m ρ c (k0_off2 c (BitVec.ofNat 32 (hopIx t).val)) (k0_off2_inb c (hopIx t))) (wb m ρ c)) from if_pos h]
    iexact Hs
  isplitl [Hx]; · iexact Hx
  iexact Hw

/-- Everything of the ring before hop `t`. -/
def st (c : Dev nD) (t : ℕ) : sProp 𝕄 :=
  iprop(ctl (F := F) c t ∗ slotHas c (src t) (chunk m ρ t c) ∗ slotAny (F := F) c (dst t))

/-- The first phase. -/
theorem wp_rs (c : Dev nD) (rest : Pg F) (Q : PUnit → sProp 𝕄) : ∀ (n t : ℕ), t + n = 31 →
    (iprop(invs m ρ K c ∗ levAts L lv ∗ st m ρ c t ∗ ins m ρ c)
      ⊢ iprop(((st m ρ c 31 ∗ ins m ρ c) -∗ wp frame (wpE (defs₀ (F := F)) 𝒱₀ (c : Thread nD τ) none) Set.univ rest Q)
          -∗ wp frame (wpE (defs₀ (F := F)) 𝒱₀ (c : Thread nD τ) none) Set.univ (rsHops c rest n t) Q)) := by
  intro n
  induction n with
  | zero =>
    intro t ht
    obtain rfl : t = 31 := by omega
    unfold rsHops
    iintro ⟨-, -, Hst, Hin⟩ Hk
    iapply Hk
    isplitl [Hst]; · iexact Hst
    iexact Hin
  | succ n ih =>
    intro t ht
    unfold rsHops
    iintro ⟨#Hinv, #Hlev, Hst, Hin⟩ Hk
    unfold st
    icases Hst with ⟨Hctl, Hs, Hd⟩
    iapply (wp_move m ρ K c t (by omega) _ Q) $$ [Hctl Hs Hd]
    · isplitr; · iexact Hinv
      isplitr; · iexact Hlev
      isplitl [Hctl]; · iexact Hctl
      isplitl [Hs]; · iexact Hs
      iexact Hd
    iintro ⟨Hctl, Hs, Hd⟩
    iapply (wp_accum m ρ c t (by omega) _ Q) $$ [Hd Hin]
    · isplitl [Hd]; · iexact Hd
      iexact Hin
    iintro ⟨Hd, Hin⟩
    iapply (ih (t + 1) (by omega)) $$ [Hctl Hs Hd Hin]
    · isplitr; · iexact Hinv
      isplitr; · iexact Hlev
      isplitl [Hctl Hs Hd]
      · unfold st
        rw [dst_succ t]
        isplitl [Hctl]; · iexact Hctl
        isplitl [Hd]; · iexact Hd
        iapply (slotHas_any c (src t) _) $$ Hs
      iexact Hin
    iexact Hk

/-! ## The output -/

/-- The device that holds complete chunk `j` after the first phase. -/
def holder (j : ℕ) : Dev nD := ⟨(j + 31) % 32, Nat.mod_lt _ (by decide)⟩

/-- The output: every 128 rows are a complete chunk, scaled. -/
def outAt (c : Dev nD) : (cc0_stg4_0 : Ref sig .tc).ty.Contents (Elt F) := fun i : S4096x2048.Idx =>
  FloatOps.mulf (chunk m ρ 31 (holder ((i 0).val / 128)) (Shape.pair ⟨(i 0).val % 128, Nat.mod_lt _ (by decide)⟩ (i 1))) (scl m ρ c)

/-- The output buffer with the first `n` chunks stored: the device's own, then each that arrived. -/
def outHas (c : Dev nD) (n : ℕ) : sProp 𝕄 :=
  iprop(∃ g : Buf (Elt F) ((c : Thread nD τ).loc cc0_stg4_0),
    ⌜∀ i : S4096x2048.Idx, (c.val + 33 - (i 0).val / 128) % 32 < n → g i = outAt m ρ c i⌝
    ∗ (((c : Thread nD τ).loc cc0_stg4_0) ↦{fullShare} g))

/-- Chunk `j`'s rows written over an output. -/
theorem write_rows (off : Fin 2 → ℕ) (inb : ∀ a, off a + S128x2048.size a ≤ S4096x2048.size a) (j : ℕ) (hoff : off = ![128 * j, 0])
    (g : (cc0_stg4_0 : Ref sig .tc).ty.Contents (Elt F)) (w : FVec F S128x2048 .f32) (i : S4096x2048.Idx) :
    ((outM : Memref sig .tc .vmem S4096x2048 .f32).access (Rect.unit (s := S4096x2048) off S128x2048.size inb)).write (Elt F) g w Finset.univ i
      = if (i 0).val / 128 = j then w (Shape.pair ⟨(i 0).val % 128, Nat.mod_lt _ (by decide)⟩ (i 1)) else g i := by
  subst hoff
  have h1 : (i 1).val < 2048 := (i 1).isLt
  by_cases h : (i 0).val / 128 = j
  · rw [if_pos h]
    have hi : ((outM : Memref sig .tc .vmem S4096x2048 .f32).access (Rect.unit (s := S4096x2048) ![128 * j, 0] S128x2048.size inb)).emb
        (Shape.pair (d := S128x2048.size) ⟨(i 0).val % 128, Nat.mod_lt _ (by decide)⟩ (i 1)) = i := by
      funext a; apply Fin.ext
      rcases a with ⟨_ | _ | n, ha⟩
      · show 128 * j + 1 * ((i 0).val % 128) = (i 0).val; omega
      · show 0 + 1 * (i 1).val = (i 1).val; omega
      · have : n + 1 + 1 < 2 := ha
        omega
    have hw := View.write_emb_of_mem (Val := Elt F)
      (v := (outM : Memref sig .tc .vmem S4096x2048 .f32).access (Rect.unit (s := S4096x2048) ![128 * j, 0] S128x2048.size inb)) g w
      (x := Shape.pair (d := S128x2048.size) ⟨(i 0).val % 128, Nat.mod_lt _ (by decide)⟩ (i 1)) (Finset.mem_univ _)
    rw [hi] at hw
    exact hw
  · rw [if_neg h]
    refine View.write_of_not_mem (Val := Elt F)
      (v := (outM : Memref sig .tc .vmem S4096x2048 .f32).access (Rect.unit (s := S4096x2048) ![128 * j, 0] S128x2048.size inb)) g w Finset.univ (fun hm => h ?_)
    obtain ⟨x, -, hx⟩ := Finset.mem_map.mp hm
    have hx0 : (i 0).val = 128 * j + 1 * (x 0).val := (congrArg (fun i : S4096x2048.Idx => (i 0).val) hx).symm
    have : (x 0).val < 128 := (x 0).isLt
    omega

/-- Storing slot `r`, which holds complete chunk `j`, as chunk number `n`. -/
theorem wp_emit (c : Dev nD) (r : Fin 2) (off : Fin 2 → ℕ) (inb : ∀ a, off a + S128x2048.size a ≤ S4096x2048.size a)
    (j n : ℕ) (hj : j < 32) (hoff : off = ![128 * j, 0]) (hn : (c.val + 33 - j) % 32 = n)
    (X : FVec F S128x2048 .f32) (hX : X = chunk m ρ 31 (holder j)) (rest : Pg F) (Q : PUnit → sProp 𝕄) :
    iprop(slotHas c r X ∗ outHas m ρ c n)
      ⊢ iprop(((slotHas c r X ∗ outHas m ρ c (n + 1))
            -∗ wp frame (wpE (defs₀ (F := F)) 𝒱₀ (c : Thread nD τ) none) Set.univ rest Q)
          -∗ wp frame (wpE (defs₀ (F := F)) 𝒱₀ (c : Thread nD τ) none) Set.univ (emit r off inb (scl m ρ c) rest) Q) := by
  unfold emit outHas
  simp only [Prog.lift, Prog.bind_op, Prog.bind_ret, Prog.pure_eq_ret]
  iintro ⟨Hs, ⟨%g, %hg, Ho⟩⟩ Hk
  iapply (wp_slot_load c r X _ _) $$ Hs; iintro Hs
  iapply (wp_load 𝒱₀ (c : Thread nD τ) none Set.univ (m := outM) (Finset.subset_univ _)) $$ Ho; iintro Ho
  iapply (wp_store 𝒱₀ (c : Thread nD τ) none Set.univ (m := outM) (r := Rect.unit (s := S4096x2048) off S128x2048.size inb) (Mk := Finset.univ) (Finset.subset_univ _)) $$ Ho
  iintro Ho
  iapply Hk
  isplitl [Hs]; · iexact Hs
  iexists _
  isplitr
  rotate_left
  · iexact Ho
  · ipureintro
    intro i hi
    have hc : c.val < 32 := c.isLt
    have hi0 : (i 0).val < 4096 := (i 0).isLt
    refine (write_rows off inb j hoff g _ i).trans ?_
    by_cases h : (i 0).val / 128 = j
    · rw [if_pos h]
      unfold k0_pay49 outAt
      dsimp only
      rw [shapeCast_shapeCast, h, hX]
      rfl
    · rw [if_neg h]
      exact hg i (by omega)

/-! ## The second phase -/

/-- In the second phase the chunks only move on. -/
theorem chunk_moves (s : ℕ) : ∀ (c : Dev nD), s ≤ 32 → chunk m ρ (31 + s) c = chunk m ρ 31 ⟨(c.val + 32 - s) % 32, Nat.mod_lt _ (by decide)⟩ := by
  induction s with
  | zero =>
    intro c _
    have hc : c.val < 32 := c.isLt
    exact congrArg (chunk m ρ 31) (Fin.ext (by simp only; omega))
  | succ s ih =>
    intro c hs
    have hc : c.val < 32 := c.isLt
    rw [show chunk m ρ (31 + (s + 1)) c = chunk m ρ (31 + s) (prv c) from if_neg (show ¬ 31 + s < 31 by omega), ih (prv c) (by omega)]
    exact congrArg (chunk m ρ 31) (Fin.ext (by simp only [prv]; omega))

theorem wp_ag (c : Dev nD) (rest : Pg F) (Q : PUnit → sProp 𝕄) : ∀ (n t : ℕ), t + n = 31 →
    (iprop(invs m ρ K c ∗ levAts L lv ∗ st m ρ c (31 + t) ∗ outHas m ρ c (t + 1))
      ⊢ iprop(((st m ρ c 62 ∗ outHas m ρ c 32) -∗ wp frame (wpE (defs₀ (F := F)) 𝒱₀ (c : Thread nD τ) none) Set.univ rest Q)
          -∗ wp frame (wpE (defs₀ (F := F)) 𝒱₀ (c : Thread nD τ) none) Set.univ (agHops c (scl m ρ c) rest n t) Q)) := by
  intro n
  induction n with
  | zero =>
    intro t ht
    obtain rfl : t = 31 := by omega
    unfold agHops
    iintro ⟨-, -, Hst, Ho⟩ Hk
    iapply Hk
    isplitl [Hst]; · iexact Hst
    iexact Ho
  | succ n ih =>
    intro t ht
    unfold agHops
    have hc : c.val < 32 := c.isLt
    iintro ⟨#Hinv, #Hlev, Hst, Ho⟩ Hk
    unfold st
    icases Hst with ⟨Hctl, Hs, Hd⟩
    iapply (wp_move m ρ K c (31 + t) (by omega) _ Q) $$ [Hctl Hs Hd]
    · isplitr; · iexact Hinv
      isplitr; · iexact Hlev
      isplitl [Hctl]; · iexact Hctl
      isplitl [Hs]; · iexact Hs
      iexact Hd
    iintro ⟨Hctl, Hs, Hd⟩
    iapply (wp_emit m ρ c (dst (31 + t)) _ _ ((c.val + 64 - (hopIx t).val) % 32) (t + 1) (Nat.mod_lt _ (by decide)) (k0_off4_eq c (hopIx t))
        (by simp only [hopIx]; omega) (chunk m ρ (31 + t) (prv c))
        (by
          rw [chunk_moves m ρ t (prv c) (by omega)]
          exact congrArg (chunk m ρ 31) (Fin.ext (by simp only [prv, holder, hopIx]; omega))) _ Q) $$ [Hd Ho]
    · isplitl [Hd]; · iexact Hd
      iexact Ho
    iintro ⟨Hd, Ho⟩
    iapply (ih (t + 1) (by omega)) $$ [Hctl Hs Hd Ho]
    · isplitr; · iexact Hinv
      isplitr; · iexact Hlev
      isplitl [Hctl Hs Hd]
      · unfold st
        rw [show 31 + (t + 1) = (31 + t) + 1 by omega, dst_succ (31 + t),
          show chunk m ρ (31 + t + 1) c = chunk m ρ (31 + t) (prv c) from if_neg (show ¬ 31 + t < 31 by omega)]
        isplitl [Hctl]; · iexact Hctl
        isplitl [Hd]; · iexact Hd
        iapply (slotHas_any c (src (31 + t)) _) $$ Hs
      iexact Ho
    iexact Hk

end Cert.KernelIdeal.Ring

end
-- ==== Proof.Body.lean ====
/-
  The kernel's body: the barrier with both neighbours, the inputs widened, the ring's two phases, and the launch's proof data
  the pipeline library takes.
-/
module

public import proofs.«01_k».proof.Proof.Phases
public import proofs.«01_k».proof.Proof.Gen.KernelIdeal.Points

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)
variable (K : Dev nD × Fin 6 → ℕ)

/-! ## The communication buffer and its two slots -/

theorem mem_slot (k : Fin 2) (i : S2x128x2048.Idx) : i ∈ (slotM k).view.set ↔ (i 0).val = k.val := by
  have h : (slotM k).view.set = (slotR k).set := (View.set_reshape _ _).trans (View.set_slice_whole _ _)
  have h1 : (i 1).val < 128 := (i 1).isLt
  have h2 : (i 2).val < 2048 := (i 2).isLt
  rw [h]
  refine (Rect.mem_set_unit (s := S2x128x2048)).trans ⟨fun H => ?_, fun H a => ?_⟩
  · have h0 : k.val ≤ (i 0).val ∧ (i 0).val < k.val + 1 := H 0
    omega
  · rcases a with ⟨_ | _ | _ | n, ha⟩
    · show k.val ≤ (i 0).val ∧ (i 0).val < k.val + 1; omega
    · show 0 ≤ (i 1).val ∧ (i 1).val < 0 + 128; omega
    · show 0 ≤ (i 2).val ∧ (i 2).val < 0 + 2048; omega
    · have : n + 1 + 1 + 1 < 3 := ha
      omega

theorem slots_disjoint : Disjoint (slotM 0).view.set (slotM 1).view.set :=
  Finset.disjoint_left.mpr fun i h0 h1 => absurd (((mem_slot 0 i).mp h0).symm.trans ((mem_slot 1 i).mp h1)) (by decide)
theorem slots_univ : (slotM 0).view.set ∪ (slotM 1).view.set = Finset.univ := by
  refine Finset.eq_univ_iff_forall.mpr fun i => Finset.mem_union.mpr ?_
  have h : ((i : S2x128x2048.Idx) 0).val < 2 := (i 0).isLt
  rcases Nat.lt_or_ge ((i : S2x128x2048.Idx) 0).val 1 with h' | h'
  · exact .inl ((mem_slot 0 i).mpr (by show _ = 0; omega))
  · exact .inr ((mem_slot 1 i).mpr (by show _ = 1; omega))

/-- The whole buffer is its two slots; -/
theorem slots_of_comm (c : Dev nD) :
    iprop(∃ f : Buf (Elt F) ((c : Thread nD τ).loc cc0_scratch2), ((c : Thread nD τ).loc cc0_scratch2) ↦{fullShare} f)
      ⊢ (iprop(slotAny (F := F) c 0 ∗ slotAny (F := F) c 1) : sProp 𝕄) := by
  unfold slotAny
  iintro ⟨%f, H⟩
  ihave H := (show (((c : Thread nD τ).loc cc0_scratch2) ↦{fullShare} f : sProp 𝕄)
      ⊢ iprop((((c : Thread nD τ).loc cc0_scratch2) ↦[(slotM 0).view.set]{fullShare} f) ∗ (((c : Thread nD τ).loc cc0_scratch2) ↦[(slotM 1).view.set]{fullShare} f))
      from by rw [← slots_univ]; exact (pointsTo_union slots_disjoint).1) $$ H
  icases H with ⟨H0, H1⟩
  isplitl [H0]
  · iexists f; iexact H0
  · iexists f; iexact H1

/-- and back. -/
theorem comm_of_slots (c : Dev nD) :
    iprop(slotAny (F := F) c 0 ∗ slotAny (F := F) c 1)
      ⊢ (iprop(∃ f : Buf (Elt F) ((c : Thread nD τ).loc cc0_scratch2), ((c : Thread nD τ).loc cc0_scratch2) ↦{fullShare} f) : sProp 𝕄) := by
  unfold slotAny
  iintro ⟨⟨%f, H0⟩, ⟨%g, H1⟩⟩
  ihave H := (pointsTo_join (ℓ := (c : Thread nD τ).loc cc0_scratch2) (q := fullShare) (f := f) (g := g) slots_disjoint) $$ [H0 H1]
  · isplitl [H0]; · iexact H0
    iexact H1
  rw [slots_univ]
  iexists _; iexact H

/-! ## The pipeline's proof data -/

/-- The tokens of one hop a device pays with; what it may wait for in that hop. -/
def hopDuties (c : Dev nD) (u : ℕ) : sProp 𝕄 :=
  iprop(dutyTok ER (credCell (prv c)) u false ∗ dutyTok ER (recvCell (nxt c) (dst u)) (u / 2) false
    ∗ dutyTok ER (sendCell c (src u)) (u / 2) false)
def hopCreds (c : Dev nD) (u : ℕ) : sProp 𝕄 :=
  iprop(cred (tallyAt (credCell c) u 1) ∗ cred (tallyAt (recvCell c (dst u)) u N))

theorem toks_join (c : Dev nD) :
    iprop(bigSep (Finset.Ico 0 62) (hopDuties (F := F) c) ∗ bigSep (Finset.Ico 0 62) (hopCreds (F := F) c))
      ⊢ bigSep (Finset.Ico 0 62) (hopToks (F := F) c) := by
  have h (u : ℕ) : iprop(hopDuties (F := F) c u ∗ hopCreds (F := F) c u) ⊢ hopToks (F := F) c u := by
    unfold hopDuties hopCreds hopToks
    iintro ⟨⟨H1, H2, H3⟩, H4, H5⟩
    isplitl [H1]; · iexact H1
    isplitl [H2]; · iexact H2
    isplitl [H3]; · iexact H3
    isplitl [H4]; · iexact H4
    iexact H5
  rw [← bigSep_sep']
  exact bigSep_mono fun u _ => h u

/-- The ring's share a device starts from: the invariants it opens, its places, the rounds reached, its tokens. -/
def ghost (c : Dev nD) : sProp 𝕄 :=
  iprop(invs m ρ K c ∗ atPos ER (barCell c) 0 ∅ 0 ∗ spots (F := F) c 0
    ∗ reached ER (barCell (prv c)) 0 ∗ reached ER (barCell (nxt c)) 0 ∗ marks (F := F) c 0
    ∗ dutyTok ER (barCell (prv c)) 0 true ∗ dutyTok ER (barCell (nxt c)) 0 false ∗ bigSep (Finset.Ico 0 62) (hopDuties (F := F) c))

def start (c : Dev nD) : sProp 𝕄 :=
  iprop((∃ K, ghost m ρ K c) ∗ cred (tallyAt (barCell c) 0 2) ∗ bigSep (Finset.Ico 0 62) (hopCreds (F := F) c) ∗ levAts L lv)

/-- The kernel's scratch buffers, at any contents. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

def Φ₀ (c : Dev nD) : sProp 𝕄 := iprop(start m ρ c ∗ scratch (F := F) c)
/-- After the body: the scratch buffers, and every semaphore back at zero. -/
def Φ₁ (c : Dev nD) : sProp 𝕄 :=
  iprop(scratch (F := F) c ∗ (semVal (credCell c) 0 ∗ semVal (sendCell c 0) 0 ∗ semVal (sendCell c 1) 0 ∗ semVal (recvCell c 0) 0 ∗ semVal (recvCell c 1) 0)
    ∗ semVal (barCell c) 0)

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => sxstg m ρ c
    | ⟨3, _⟩ => swstg m ρ c
    | ⟨4, _⟩ => outAt m ρ c
  Φ t := match t with
    | ⟨0, _⟩ => Φ₀ m ρ c
    | ⟨_ + 1, _⟩ => Φ₁ (F := F) c
  q _ := fullShare
  owed t := match t with
    | ⟨0, _⟩ => O₀ c
    | ⟨_ + 1, _⟩ => 0

theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-! ## The ring, from its first partial product on -/

theorem pay5_cast (a : Vec F S128x128 .bf16) (b : Vec F S128x2048 .bf16) :
    shapeCast S128x2048 (k0_pay5 a b) shapeCasts_S1x128x2048_S128x2048 = partialMul a b := by
  unfold k0_pay5 partialMul
  dsimp only
  rw [shapeCast_shapeCast]

theorem wp_ring (c : Dev nD) (v : F .f32) (hv : v = scl m ρ c) (Q : PUnit → sProp 𝕄) :
    iprop(invs m ρ K c ∗ levAts L lv ∗ ctl (F := F) c 0 ∗ slotAny (F := F) c 0 ∗ slotAny (F := F) c 1 ∗ ins m ρ c ∗ outHas m ρ c 0)
      ⊢ iprop(((st m ρ c 62 ∗ ins m ρ c ∗ outHas m ρ c 32) -∗ wp frame (wpE (defs₀ (F := F)) 𝒱₀ (c : Thread nD τ) none) Set.univ (pure ⟨⟩ : Pg F) Q)
          -∗ wp frame (wpE (defs₀ (F := F)) 𝒱₀ (c : Thread nD τ) none) Set.univ (ring c v) Q) := by
  subst hv
  unfold ring
  have hc : c.val < 32 := c.isLt
  simp only [Prog.lift, Prog.bind_op, Prog.bind_ret]
  iintro ⟨#Hinv, #Hlev, Hctl, H0, H1, Hin, Ho⟩ Hk
  unfold ins
  icases Hin with ⟨Hx, Hw⟩
  iapply (wp_load 𝒱₀ (c : Thread nD τ) none Set.univ (m := xbM) (Finset.subset_univ _)) $$ Hx; iintro Hx
  iapply (wp_load 𝒱₀ (c : Thread nD τ) none Set.univ (m := wbM) (Finset.subset_univ _)) $$ Hw; iintro Hw
  rw [read_wb]
  unfold slotAny
  icases H0 with ⟨%f, H0⟩
  iapply (wp_load 𝒱₀ (c : Thread nD τ) none Set.univ (m := commM) (S := (slotM 0).view.set) (slot_set 0)) $$ H0; iintro H0
  ihave H0 := (show ((slotM 0).view.loc (c : Thread nD τ) ↦[(slotM 0).view.set]{fullShare} f : sProp 𝕄) ⊢ slotAny (F := F) c 0 from by
    unfold slotAny; iintro H; iexists f; iexact H) $$ H0
  iapply (wp_slot_store c 0 _ _ _) $$ H0; iintro H0
  rw [pay5_cast]
  iapply (wp_rs m ρ K c _ Q 31 0 rfl) $$ [Hctl H0 H1 Hx Hw]
  · isplitr; · iexact Hinv
    isplitr; · iexact Hlev
    isplitl [Hctl H0 H1]
    · unfold st slotAny
      isplitl [Hctl]; · iexact Hctl
      isplitl [H0]; · iexact H0
      iexact H1
    · unfold ins
      isplitl [Hx]; · iexact Hx
      iexact Hw
  iintro ⟨Hst, Hin⟩
  unfold st
  icases Hst with ⟨Hctl, Hs, Hd⟩
  iapply (wp_emit m ρ c 1 _ _ ((c.val + 1) % 32) 0 (Nat.mod_lt _ (by decide)) (k0_off3_eq c) (by omega) (chunk m ρ 31 c)
      (congrArg (chunk m ρ 31) (Fin.ext (by simp only [holder]; omega))) _ Q) $$ [Hs Ho]
  · isplitl [Hs]; · iexact Hs
    iexact Ho
  iintro ⟨Hs, Ho⟩
  iapply (wp_ag m ρ K c _ Q 31 0 rfl) $$ [Hctl Hs Hd Ho]
  · isplitr; · iexact Hinv
    isplitr; · iexact Hlev
    isplitl [Hctl Hs Hd]
    · unfold st
      isplitl [Hctl]; · iexact Hctl
      isplitl [Hs]; · iexact Hs
      iexact Hd
    iexact Ho
  iintro ⟨Hst, Ho⟩
  iapply Hk
  isplitl [Hst]; · unfold st; iexact Hst
  isplitl [Hin]; · unfold ins; iexact Hin
  iexact Ho

/-! ## The body -/

theorem read_x (f : (cc0_stg0_0 : Ref sig .tc).ty.Contents (Elt F)) :
    (xM : Memref sig .tc .vmem S4096x128 .fp8e5m2).view.readAt (Elt F)
      (Rect.unit (s := S4096x128) ![0, 0] S4096x128.size inb_S4096x128_S4096x128_0_0).toLoadRect f = f :=
  Memref.readAt_unit_zero (Elt F) cc0_stg0_0 hz _ f
theorem read_w (f : (cc0_stg1_0 : Ref sig .tc).ty.Contents (Elt F)) :
    (wM : Memref sig .tc .vmem S128x2048 .fp8e5m2).view.readAt (Elt F)
      (Rect.unit (s := S128x2048) ![0, 0] S128x2048.size inb_S128x2048_S128x2048_0_0).toLoadRect f = f :=
  Memref.readAt_unit_zero (Elt F) cc0_stg1_0 hz _ f
theorem write_xb (f w : (cc0_scratch0 : Ref sig .tc).ty.Contents (Elt F)) :
    ((xbM : Memref sig .tc .vmem S4096x128 .bf16).access (Rect.unit (s := S4096x128) ![0, 0] S4096x128.size inb_S4096x128_S4096x128_0_0)
      : View sig .tc _ _ _).write (Elt F) f w Finset.univ = w :=
  Memref.write_access_unit_zero_univ (Elt F) cc0_scratch0 hz _ f w
theorem write_wb (f w : (cc0_scratch1 : Ref sig .tc).ty.Contents (Elt F)) :
    ((wbM : Memref sig .tc .vmem S128x2048 .bf16).access (Rect.unit (s := S128x2048) ![0, 0] S128x2048.size inb_S128x2048_S128x2048_0_0)
      : View sig .tc _ _ _).write (Elt F) f w Finset.univ = w :=
  Memref.write_access_unit_zero_univ (Elt F) cc0_scratch1 hz _ f w

/-- What the body starts from, its staging buffers as the pipeline hands them over; -/
def bodyPre (c : Dev nD) : sProp 𝕄 :=
  iprop((ghost m ρ K c ∗ cred (tallyAt (barCell c) 0 2) ∗ bigSep (Finset.Ico 0 62) (hopCreds (F := F) c) ∗ levAts L lv ∗ scratch (F := F) c)
    ∗ (dats m ρ 0 c).owesAt 0 t0_0.castSucc
    ∗ (∃ d, stg c cc0_stg0_0 ((dats m ρ 0 c).before (0 : Fin 5) t0_0 d))
    ∗ (∃ d, stg c cc0_stg1_0 ((dats m ρ 0 c).before (1 : Fin 5) t0_0 d))
    ∗ (∃ d, stg c cc0_stg2_0 ((dats m ρ 0 c).before (2 : Fin 5) t0_0 d))
    ∗ (∃ d, stg c cc0_stg3_0 ((dats m ρ 0 c).before (3 : Fin 5) t0_0 d))
    ∗ (∃ d, stg c cc0_stg4_0 ((dats m ρ 0 c).before (4 : Fin 5) t0_0 d)))

/-- what it leaves. -/
def bodyPost (c : Dev nD) : sProp 𝕄 :=
  iprop(Φ₁ (F := F) c ∗ (dats m ρ 0 c).owesAt 0 t0_0.succ ∗ stg c cc0_stg0_0 (xstg m ρ c) ∗ stg c cc0_stg1_0 (wstg m ρ c)
    ∗ stg c cc0_stg2_0 (sxstg m ρ c) ∗ stg c cc0_stg3_0 (swstg m ρ c) ∗ stg c cc0_stg4_0 (outAt m ρ c))

/-- Every chunk stored, the output is complete. -/
theorem out_full (c : Dev nD) : outHas m ρ c 32 ⊢ stg c cc0_stg4_0 (outAt m ρ c) := by
  unfold outHas
  iintro ⟨%g, %hg, H⟩
  iexists g
  isplitr
  · ipureintro; exact funext fun i => hg i (Nat.mod_lt _ (by decide))
  iexact H

/-- The five own cells close after the last hop. -/
theorem close_spots (c : Dev nD) :
    iprop(invs m ρ K c ∗ spots (F := F) c 62)
      ⊢ iprop(|={Set.univ}=> (semVal (credCell c) 0 ∗ semVal (sendCell c 0) 0 ∗ semVal (sendCell c 1) 0 ∗ semVal (recvCell c 0) 0 ∗ semVal (recvCell c 1) 0)) := by
  unfold spots
  iintro ⟨#Hinv, HaC, HaS, HaS', HaV, HaV'⟩
  ihave #HIc := (inv_cred m ρ K c) $$ Hinv
  ihave #HIs0 := (inv_send m ρ K c 0) $$ Hinv
  ihave #HIs1 := (inv_send m ρ K c 1) $$ Hinv
  ihave #HIv0 := (inv_recv m ρ K c 0) $$ Hinv
  ihave #HIv1 := (inv_recv m ρ K c 1) $$ Hinv
  imod (Rounds.cell_close ER (ringRd m ρ) (Set.mem_univ (K (c, 1))) (fun h => h) (R := 62) (later_cred m ρ c)) $$ [HaC] with HzC
  · isplitr; · iexact HIc
    iexact HaC
  imod (Rounds.cell_close ER (ringRd m ρ) (Set.mem_univ (K (c, sendIx 0))) (fun h => h) (R := 31) (later_send m ρ c 0)) $$ [HaS] with HzS0
  · isplitr; · iexact HIs0
    iexact HaS
  imod (Rounds.cell_close ER (ringRd m ρ) (Set.mem_univ (K (c, sendIx 1))) (fun h => h) (R := 31) (later_send m ρ c 1)) $$ [HaS'] with HzS1
  · isplitr; · iexact HIs1
    iexact HaS'
  imod (Rounds.cell_close ER (ringRd m ρ) (Set.mem_univ (K (c, recvIx 1))) (fun h => h) (R := 31) (later_recv m ρ c 1)) $$ [HaV] with HzV1
  · isplitr; · iexact HIv1
    iexact HaV
  imod (Rounds.cell_close ER (ringRd m ρ) (Set.mem_univ (K (c, recvIx 0))) (fun h => h) (R := 31) (later_recv m ρ c 0)) $$ [HaV'] with HzV0
  · isplitr; · iexact HIv0
    iexact HaV'
  imodintro
  isplitl [HzC]; · iexact HzC
  isplitl [HzS0]; · iexact HzS0
  isplitl [HzS1]; · iexact HzS1
  isplitl [HzV0]; · iexact HzV0
  iexact HzV1

theorem inv_bar (c : Dev nD) : invs (F := F) m ρ K c ⊢ cellInv ER (ringRd m ρ) (K (c, 0)) (barCell c) := by
  unfold invs; iintro ⟨H, -⟩; iexact H
theorem inv_barP (c : Dev nD) : invs (F := F) m ρ K c ⊢ cellInv ER (ringRd m ρ) (K (prv c, 0)) (barCell (prv c)) := by
  unfold invs; iintro ⟨-, -, -, -, H, -⟩; iexact H
theorem inv_barN (c : Dev nD) : invs (F := F) m ρ K c ⊢ cellInv ER (ringRd m ρ) (K (nxt c, 0)) (barCell (nxt c)) := by
  unfold invs; iintro ⟨-, -, -, -, -, H, -⟩; iexact H

set_option maxHeartbeats 1600000 in
/-- The body, from `bodyPre` to `bodyPost`. -/
theorem sound_body (c : Dev nD) (Kt : PUnit → sProp 𝕄) :
    iprop(bodyPre m ρ K c ∗ (bodyPost m ρ c -∗ Kt ⟨⟩))
      ⊢ wp frame (wpE (defs₀ (F := F)) 𝒱₀ (c : Thread nD τ) none) Set.univ (body (F := F)) Kt := by
  unfold body
  simp only [semSignalWord, semWaitWord, smemLoad, smemLoadElt, Prog.lift, Prog.bind_op, Prog.bind_ret, wp_deviceId, dev1_eq c, dev2_eq c]
  unfold bodyPre ghost scratch
  iintro ⟨⟨⟨⟨#Hinv, HaB, Hspots, #HrBP, #HrBN, Hmarks, HtBP, HtBN, Hduties⟩, HcB, Hcreds, #Hlev, ⟨⟨%f0, Hxb⟩, ⟨%f1, Hwb⟩, Hcomm⟩⟩,
    Ho, ⟨%d0, %g0, %hg0, Hx⟩, ⟨%d1, %g1, %hg1, Hw⟩, ⟨%d2, %g2, %hg2, Hsx⟩, ⟨%d3, %g3, %hg3, Hsw⟩, ⟨%d4, %g4, %hg4, Hout⟩⟩, Hk⟩
  have hx : g0 = xstg m ρ c := by rw [hg0]; unfold Dat.before; rw [if_pos (fetch0_0 t0_0)]; rfl
  have hw : g1 = wstg m ρ c := by rw [hg1]; unfold Dat.before; rw [if_pos (fetch0_1 t0_0)]; rfl
  have hsx : g2 = sxstg m ρ c := by rw [hg2]; unfold Dat.before; rw [if_pos (fetch0_2 t0_0)]; rfl
  have hsw : g3 = swstg m ρ c := by rw [hg3]; unfold Dat.before; rw [if_pos (fetch0_3 t0_0)]; rfl
  subst hx hw hsx hsw
  unfold Dat.owesAt Pipeline.owesWithin
  icases Ho with ⟨%W, %hW, HO⟩
  rw [show (dats m ρ 0 c).owed t0_0.castSucc = O₀ c from rfl]
  ihave #HIb := (inv_bar m ρ K c) $$ Hinv
  ihave #HIbP := (inv_barP m ρ K c) $$ Hinv
  ihave #HIbN := (inv_barN m ρ K c) $$ Hinv
  -- the barrier of the device before, then of the one after
  iapply (Rounds.wp_signal 𝒱₀ ER (ringRd m ρ) (c : Thread nD τ) none (dst := (prv c : Thread nD τ)) (κ := K (prv c, 0))
      (d := true) (by rw [duties_bar]; exact Finset.mem_univ _) ((amount_bar m ρ (prv c) 0 true).trans (by decide)) 0 (O₁ c) rfl) $$ [HO HtBP]
  · isplitr; · iexact HIbP
    isplitl [HO]; · iexact HO
    isplitl [HtBP]; · iexact HtBP
    isplitr; · rw [payload_bar]; iempintro
    iexact HrBP
  iintro HO
  unfold O₁
  iapply (Rounds.wp_signal 𝒱₀ ER (ringRd m ρ) (c : Thread nD τ) none (dst := (nxt c : Thread nD τ)) (κ := K (nxt c, 0))
      (d := false) (by rw [duties_bar]; exact Finset.mem_univ _) ((amount_bar m ρ (nxt c) 0 false).trans (by decide)) 0 (owe c 0) rfl) $$ [HO HtBN]
  · isplitr; · iexact HIbN
    isplitl [HO]; · iexact HO
    isplitl [HtBN]; · iexact HtBN
    isplitr; · rw [payload_bar]; iempintro
    iexact HrBN
  iintro HO
  -- its own barrier
  iapply (Rounds.wp_wait_rest_token 𝒱₀ ER (ringRd m ρ) (c : Thread nD τ) none (κ := K (c, 0))
      (wpE_semWait_eq 𝒱₀ (c : Thread nD τ) none Set.univ) (Set.mem_univ _) 0 (O := owe c 0) (W := W) (R := 0) (m := 0) (T := ∅)
      (by rw [expect_bar]; decide)) $$ [HcB HO HaB]
  · isplitr; · iexact HIb
    isplitl [HcB]; · iexact HcB
    isplitl [HO]; · iexact HO
    isplitr
    · iapply (mayWait c (.reg barS) 0 (by decide) _ (fun g u hg => by
        obtain ⟨h1, h2, h3⟩ := owe_level hg
        exact ⟨h1, h2, by rw [lv_bar]; omega⟩))
      iexact Hlev
    iexact HaB
  iintro ⟨HO, HaB, -, -⟩
  imod (Rounds.cell_close ER (ringRd m ρ) (Set.mem_univ (K (c, 0))) (fun h => h) (R := 0 + 1) (later_bar m ρ c)) $$ [HaB] with HzB
  · isplitr; · iexact HIb
    iexact HaB
  -- the widened inputs
  iapply (wp_load 𝒱₀ (c : Thread nD τ) none Set.univ (m := xM) (Finset.subset_univ _)) $$ Hx; iintro Hx
  rw [read_x]
  iapply (wp_load 𝒱₀ (c : Thread nD τ) none Set.univ (m := xbM) (Finset.subset_univ _)) $$ Hxb; iintro Hxb
  iapply (wp_store 𝒱₀ (c : Thread nD τ) none Set.univ (m := xbM)
    (r := Rect.unit (s := S4096x128) ![0, 0] S4096x128.size inb_S4096x128_S4096x128_0_0) (Mk := Finset.univ) (Finset.subset_univ _)) $$ Hxb
  iintro Hxb
  rw [write_xb]
  iapply (wp_load 𝒱₀ (c : Thread nD τ) none Set.univ (m := wM) (Finset.subset_univ _)) $$ Hw; iintro Hw
  rw [read_w]
  iapply (wp_load 𝒱₀ (c : Thread nD τ) none Set.univ (m := wbM) (Finset.subset_univ _)) $$ Hwb; iintro Hwb
  iapply (wp_store 𝒱₀ (c : Thread nD τ) none Set.univ (m := wbM)
    (r := Rect.unit (s := S128x2048) ![0, 0] S128x2048.size inb_S128x2048_S128x2048_0_0) (Mk := Finset.univ) (Finset.subset_univ _)) $$ Hwb
  iintro Hwb
  rw [write_wb]
  -- the scales
  iapply (wp_load 𝒱₀ (c : Thread nD τ) none Set.univ (m := sxM) (Finset.subset_univ _)) $$ Hsx; iintro Hsx
  iapply (wp_load 𝒱₀ (c : Thread nD τ) none Set.univ (m := swM) (Finset.subset_univ _)) $$ Hsw; iintro Hsw
  -- the ring
  ihave Hslots := (slots_of_comm (F := F) c) $$ Hcomm
  icases Hslots with ⟨H0, H1⟩
  have hv : k0_pay4 (sxM.view.readAt (Elt F) (Rect.unit (s := S1) ![0] S1.size inb_S1_S1_0).toLoadRect (sxstg m ρ c) one0)
      (swM.view.readAt (Elt F) (Rect.unit (s := S1) ![0] S1.size inb_S1_S1_0).toLoadRect (swstg m ρ c) one0) = scl m ρ c := rfl
  rw [hv]
  iapply (wp_ring m ρ K c _ rfl Kt) $$ [Hspots Hmarks Hduties Hcreds HO H0 H1 Hxb Hwb Hout]
  · isplitr; · iexact Hinv
    isplitr; · iexact Hlev
    isplitl [Hspots Hmarks Hduties Hcreds HO]
    · unfold ctl
      isplitl [Hspots]; · iexact Hspots
      isplitl [Hmarks]; · iexact Hmarks
      isplitl [Hduties Hcreds]
      · iapply (toks_join (F := F) c)
        isplitl [Hduties]; · iexact Hduties
        iexact Hcreds
      iexists _; iexact HO
    isplitl [H0]; · iexact H0
    isplitl [H1]; · iexact H1
    isplitl [Hxb Hwb]
    · unfold ins
      isplitl [Hxb]; · iexact Hxb
      iexact Hwb
    unfold outHas
    iexists g4
    isplitr; · ipureintro; exact fun i hi => absurd hi (Nat.not_lt_zero _)
    iexact Hout
  unfold st ctl ins
  iintro ⟨⟨⟨Hspots, -, -, ⟨%W', HO⟩⟩, Hs, Hd⟩, ⟨Hxb, Hwb⟩, Hout⟩
  imod (close_spots m ρ K c) $$ [Hspots] with Hz
  · isplitr; · iexact Hinv
    iexact Hspots
  rw [Prog.pure_eq_ret, wp_ret]; imodintro
  iapply Hk
  unfold bodyPost Φ₁ Dat.owesAt Pipeline.owesWithin
  rw [show (dats m ρ 0 c).owed t0_0.succ = 0 from rfl, owe_end]
  isplitl [Hxb Hwb Hs Hd Hz HzB]
  · isplitl [Hxb Hwb Hs Hd]
    · unfold scratch
      isplitl [Hxb]; · iexists _; iexact Hxb
      isplitl [Hwb]; · iexists _; iexact Hwb
      iapply (comm_of_slots (F := F) c)
      isplitl [Hs]; · iapply (slotHas_any c (src 62) _) $$ Hs
      iexact Hd
    isplitl [Hz]; · iexact Hz
    iexact HzB
  isplitl [HO]
  · iexists W'
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  isplitl [Hsx]
  · iexists _; isplitr; · (ipureintro; rfl)
    iexact Hsx
  isplitl [Hsw]
  · iexists _; isplitr; · (ipureintro; rfl)
    iexact Hsw
  iapply (out_full m ρ c) $$ Hout

set_option maxRecDepth 4000 in
def bodyPre' (c : Dev nD) : sProp 𝕄 :=
  iprop(Φ₀ m ρ c ∗ (dats m ρ 0 c).owesAt 0 t0_0.castSucc
    ∗ (∃ d, stg c cc0_stg0_0 ((dats m ρ 0 c).before (0 : Fin 5) t0_0 d))
    ∗ (∃ d, stg c cc0_stg1_0 ((dats m ρ 0 c).before (1 : Fin 5) t0_0 d))
    ∗ (∃ d, stg c cc0_stg2_0 ((dats m ρ 0 c).before (2 : Fin 5) t0_0 d))
    ∗ (∃ d, stg c cc0_stg3_0 ((dats m ρ 0 c).before (3 : Fin 5) t0_0 d))
    ∗ (∃ d, stg c cc0_stg4_0 ((dats m ρ 0 c).before (4 : Fin 5) t0_0 d)))

set_option maxRecDepth 65536 in
/-- The pipeline's obligation for the body. -/
theorem body_obligation (c : Dev nD) : BodyObligation (dats (F := F) m ρ 0 c) (defs₀ (F := F)) 𝒱₀ 0 Set.univ := fun t => by
  rw [show t = t0_0 from fin_N0 t]
  rw [bigSep_W0, bigSep_W0]
  simp only [owns_whole_eq]
  show bodyPre' m ρ c ⊢ wp frame (wpE (defs₀ (F := F)) 𝒱₀ (c : Thread nD τ) none) Set.univ
    (cc0_body (F := F) xM (Memref.isWhole_whole _) wM (Memref.isWhole_whole _) sxM (Memref.isWhole_whole _)
      swM (Memref.isWhole_whole _) outM (Memref.isWhole_whole _) xbM (Memref.isWhole_whole _) wbM (Memref.isWhole_whole _)
      commM (Memref.isWhole_whole _) cc0_scratch3 cc0_scratch4 cc0_scratch5) (fun _ => bodyPost m ρ c)
  rw [body_eq]
  unfold bodyPre' Φ₀ start
  iintro ⟨⟨⟨⟨%K, Hg⟩, H1, H2, H3⟩, Hscr⟩, Ho, Hrest⟩
  iapply (sound_body m ρ K c fun _ => bodyPost m ρ c)
  unfold bodyPre
  isplitr []
  · isplitl [Hg H1 H2 H3 Hscr]
    · isplitl [Hg]; · iexact Hg
      isplitl [H1]; · iexact H1
      isplitl [H2]; · iexact H2
      isplitl [H3]; · iexact H3
      iexact Hscr
    isplitl [Ho]; · iexact Ho
    iexact Hrest
  · iintro H; iexact H

end Cert.KernelIdeal.Ring

end
-- ==== Proof.Launch.lean ====
/-
  The launch: the ring's cells and tokens minted and dealt to the devices, every device's credit, and the run of the whole
  program from any memory with zero counters.
-/
module

public import proofs.«01_k».proof.Proof.Body
public import Idealize.ShloMosaic.Lib.Pipeline.CollectiveSegs

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

theorem ownSemFacts : Pipeline.OwnSemFacts cfg0.spec osem := by decide

theorem share_eq (c : Dev nD) (w : Fin cfg0.W) : (dats m ρ 0 c).share w = fullShare := by unfold Dat.share; split <;> rfl

/-! ## The cells and the tokens -/

theorem kcell_injective : Function.Injective (kcell : Dev nD × Fin 6 → GSem nD τ sig) := by
  rintro ⟨c, k⟩ ⟨c', k'⟩ h
  have h1 : c = c' := congrArg (fun g : GSem nD τ sig => g.1.1) h
  subst h1
  have h2 : csem k = csem k' := congrArg Prod.snd h
  have key : ∀ k k' : Fin 6, csem k = csem k' → k = k' := by decide
  have : k = k' := key k k' h2
  subst this; rfl
def ringCells : Finset (GSem nD τ sig) := Finset.univ.map ⟨kcell, kcell_injective⟩

/-- The tokens of a device's own cells: its barrier's two, and for every hop its credit's, its arrival's and its send's. -/
abbrev TokIx : Type := Bool ⊕ (Fin 62 × Fin 3)
def tokOf (x : Dev nD × TokIx) : GSem nD τ sig × ℕ × Bool := match x.2 with
  | .inl b => (barCell x.1, 0, b)
  | .inr (u, 0) => (credCell x.1, u.val, false)
  | .inr (u, 1) => (recvCell x.1 (dst u.val), u.val / 2, false)
  | .inr (u, 2) => (sendCell x.1 (src u.val), u.val / 2, false)

theorem half_inj {u v : ℕ} (h : u / 2 = v / 2) (h' : src u = src v) : u = v := by
  have h2 : u % 2 = v % 2 := congrArg Fin.val h'
  omega
theorem half_inj' {u v : ℕ} (h : u / 2 = v / 2) (h' : dst u = dst v) : u = v := by
  have h2 : (u + 1) % 2 = (v + 1) % 2 := congrArg Fin.val h'
  omega

theorem tokOf_injective : Function.Injective tokOf := by
  rintro ⟨c, x⟩ ⟨c', x'⟩ h
  have h1 : c = c' := by
    have := congrArg (fun y : GSem nD τ sig × ℕ × Bool => y.1.1.1) h
    rcases x with b | ⟨u, k⟩ <;> rcases x' with b' | ⟨u', k'⟩ <;> (try fin_cases k) <;> (try fin_cases k') <;> exact this
  subst h1
  have hs := congrArg (fun y : GSem nD τ sig × ℕ × Bool => y.1.2) h
  have hr := congrArg (fun y : GSem nD τ sig × ℕ × Bool => y.2.1) h
  have hb := congrArg (fun y : GSem nD τ sig × ℕ × Bool => y.2.2) h
  rcases x with b | ⟨u, k⟩
  · rcases x' with b' | ⟨u', k'⟩
    · have : b = b' := hb
      rw [this]
    · fin_cases k'
      · exact absurd hs bar_ne_cred
      · exact absurd hs (recv_ne_bar _).symm
      · exact absurd hs (send_ne_bar _).symm
  · rcases x' with b' | ⟨u', k'⟩
    · fin_cases k
      · exact absurd hs cred_ne_bar
      · exact absurd hs (recv_ne_bar _)
      · exact absurd hs (send_ne_bar _)
    · fin_cases k <;> fin_cases k'
      · have : u = u' := Fin.ext hr
        rw [this]
      · exact absurd hs (recv_ne_cred _).symm
      · exact absurd hs (send_ne_cred _).symm
      · exact absurd hs (recv_ne_cred _)
      · have : u = u' := Fin.ext (half_inj' hr (recv_inj _ _ hs))
        rw [this]
      · exact absurd hs (recv_ne_send _ _)
      · exact absurd hs (send_ne_cred _)
      · exact absurd hs (send_ne_recv _ _)
      · have : u = u' := Fin.ext (half_inj hr (send_inj _ _ hs))
        rw [this]
def ringToks : Finset (GSem nD τ sig × ℕ × Bool) := Finset.univ.map ⟨tokOf, tokOf_injective⟩

def u₀ : UU :=
  (initOf (Pipeline.cells cfgs cellOf_inj) (Pipeline.launchToks cfgs cellOf_inj), initOf ringCells ringToks)

/-- The duty tokens of device `c`'s own cells: hop by hop, -/
def hopOwn (c : Dev nD) (u : ℕ) : sProp 𝕄 :=
  iprop(dutyTok ER (credCell c) u false ∗ dutyTok ER (recvCell c (dst u)) (u / 2) false ∗ dutyTok ER (sendCell c (src u)) (u / 2) false)
/-- and all of them. -/
def toks (c : Dev nD) : sProp 𝕄 :=
  iprop((dutyTok ER (barCell c) 0 false ∗ dutyTok ER (barCell c) 0 true) ∗ bigSep (Finset.Ico 0 62) (hopOwn (F := F) c))

def G (c : Dev nD) : sProp 𝕄 :=
  iprop((bigSep Finset.univ fun k : Fin 6 => roundState ER (ringRd m ρ) (kcell (c, k)) 0)
    ∗ (bigSep Finset.univ fun k : Fin 6 => iprop(atPos ER (kcell (c, k)) 0 ∅ 0 ∗ reached ER (kcell (c, k)) 0)) ∗ toks (F := F) c)

def G' (c : Dev nD) : sProp 𝕄 := iprop(∃ K, ghost m ρ K c)

theorem sep_fin6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ
theorem sep_fin3 (Φ : Fin 3 → sProp 𝕄) : bigSep Finset.univ Φ = iprop(Φ 0 ∗ Φ 1 ∗ Φ 2) :=
  bigSep_univ_eq_bigSepL [0, 1, 2] (by decide) (by decide) Φ
theorem sep_bool (Φ : Bool → sProp 𝕄) : bigSep Finset.univ Φ = iprop(Φ false ∗ Φ true) :=
  bigSep_univ_eq_bigSepL [false, true] (by decide) (by decide) Φ
theorem sep_hops (Φ : ℕ → sProp 𝕄) : (bigSep Finset.univ fun u : Fin 62 => Φ u.val) = bigSep (Finset.Ico 0 62) Φ := by
  have h : Finset.Ico 0 62 = (Finset.univ : Finset (Fin 62)).map Fin.valEmbedding := by
    ext u
    simp only [Finset.mem_Ico, Finset.mem_map, Finset.mem_univ, true_and]
    exact ⟨fun hu => ⟨⟨u, hu.2⟩, rfl⟩, fun ⟨v, hv⟩ => hv ▸ ⟨Nat.zero_le _, v.isLt⟩⟩
  rw [h, bigSep_map]; rfl

theorem toks_eq (c : Dev nD) :
    (bigSep Finset.univ fun x : TokIx => (dutyTok ER (tokOf (c, x)).1 (tokOf (c, x)).2.1 (tokOf (c, x)).2.2 : sProp 𝕄)) = toks (F := F) c := by
  unfold toks
  rw [BI.bigSep_univ_sum, bigSep_univ_prod, sep_bool, ← sep_hops]
  refine congrArg₂ _ rfl (bigSep_congr fun u _ => ?_)
  rw [sep_fin3]; rfl

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : Fin 6 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks (F := F) c := by
    unfold ringToks; rw [bigSep_map, bigSep_univ_prod]
    exact bigSep_congr fun c _ => toks_eq c
  iintro HX
  imod (Rounds.fund ER (ringRd m ρ) ringCells ringToks) $$ HX with ⟨Hst, Hr, Hat, Htok⟩
  imodintro
  ihave Hst' := (Entails.of_eq (hX fun g => roundState ER (ringRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## Every device's cells get their invariants, and its share of the tokens -/

theorem ownSems0_eq (c : Dev nD) : (Pipeline.ownSems0 (Ix := ℕ) (Name := ℕ) (U := UU) (Lvl := ℕ) (Val := Elt F) (τ := τ) osem c : sProp 𝕄)
    = iprop(semVal (credCell c) 0 ∗ semVal (sendCell c 0) 0 ∗ semVal (sendCell c 1) 0 ∗ semVal (recvCell c 0) 0 ∗ semVal (recvCell c 1) 0) := by
  rw [Pipeline.ownSems0_eq_of_list c osem [0, 1, 2, 3, 4] (by decide) (by decide)]; rfl
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := ℕ) (Name := ℕ) (U := UU) (Lvl := ℕ) (Val := Elt F) (τ := τ) osem c ∗ unscopedSems0 c)
      ⊢ (bigSep Finset.univ fun k : Fin 6 => semVal (kcell (c, k)) 0 : sProp 𝕄) := by
  rw [ownSems0_eq, unscopedSems0_eq, sep_fin6]
  iintro ⟨⟨HC, HS0, HS1, HR0, HR1⟩, HB⟩
  isplitl [HB]; · iexact HB
  isplitl [HC]; · iexact HC
  isplitl [HS0]; · iexact HS0
  isplitl [HS1]; · iexact HS1
  isplitl [HR0]; · iexact HR0
  iexact HR1

theorem core_alloc (c : Dev nD) :
    iprop(Pipeline.ownSems0 (Ix := ℕ) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (ringRd m ρ) κ (kcell (c, k))))
          ∗ (bigSep Finset.univ fun k => iprop(atPos ER (kcell (c, k)) 0 ∅ 0 ∗ reached ER (kcell (c, k)) 0)) ∗ toks (F := F) c) := by
  unfold G
  iintro ⟨Hos, Hus, Hst, Hat, Htok⟩
  ihave Hv := (sems0_eq (F := F) c) $$ [Hos Hus]
  · isplitl [Hos] <;> iassumption
  imod (show iprop((bigSep Finset.univ fun k : Fin 6 => semVal (kcell (c, k)) 0) ∗ bigSep Finset.univ fun k : Fin 6 => roundState ER (ringRd m ρ) (kcell (c, k)) 0)
      ⊢ (|={Set.univ}=> bigSep Finset.univ fun k => iprop(∃ κ : ℕ, cellInv ER (ringRd m ρ) κ (kcell (c, k))) : sProp 𝕄) from by
        rw [← bigSep_sep']
        exact (bigSep_mono fun k _ => (Rounds.body_intro ER (ringRd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- What every device may know: all the invariants, and that every cell starts at round zero. -/
def records (K : Dev nD × Fin 6 → ℕ) : sProp 𝕄 :=
  iprop((bigSep Finset.univ fun ck : Dev nD × Fin 6 => cellInv ER (ringRd m ρ) (K ck) (kcell ck))
    ∗ bigSep Finset.univ fun ck : Dev nD × Fin 6 => reached ER (kcell ck) 0)

instance records_persistent (K : Dev nD × Fin 6 → ℕ) : BI.Persistent (records (F := F) m ρ K) := by unfold records; infer_instance

theorem inv_at (K : Dev nD × Fin 6 → ℕ) (ck : Dev nD × Fin 6) :
    records (F := F) m ρ K ⊢ cellInv ER (ringRd m ρ) (K ck) (kcell ck) := by
  unfold records
  iintro ⟨H, -⟩
  iapply (show (bigSep Finset.univ fun ck : Dev nD × Fin 6 => (cellInv ER (ringRd m ρ) (K ck) (kcell ck) : sProp 𝕄)) ⊢ _ from bigSep_elim (Finset.mem_univ ck))
  iexact H
theorem reached_at (K : Dev nD × Fin 6 → ℕ) (ck : Dev nD × Fin 6) :
    records (F := F) m ρ K ⊢ reached ER (kcell ck) 0 := by
  unfold records
  iintro ⟨-, H⟩
  iapply (show (bigSep Finset.univ fun ck : Dev nD × Fin 6 => (reached ER (kcell ck) 0 : sProp 𝕄)) ⊢ _ from bigSep_elim (Finset.mem_univ ck))
  iexact H

/-- The tokens of the duties device `c` pays. -/
def payToks (c : Dev nD) : sProp 𝕄 :=
  iprop((dutyTok ER (barCell (nxt c)) 0 false ∗ dutyTok ER (barCell (prv c)) 0 true) ∗ bigSep (Finset.Ico 0 62) (hopDuties (F := F) c))
def linear (c : Dev nD) : sProp 𝕄 :=
  iprop((bigSep Finset.univ fun k : Fin 6 => (atPos ER (kcell (c, k)) 0 ∅ 0 : sProp 𝕄)) ∗ payToks (F := F) c)

theorem invs_intro (K : Dev nD × Fin 6 → ℕ) (c : Dev nD) : records (F := F) m ρ K ⊢ invs (F := F) m ρ K c := by
  unfold invs
  iintro #H
  isplitr; · iapply (inv_at m ρ K (c, 0)); iexact H
  isplitr; · iapply (inv_at m ρ K (c, 1)); iexact H
  isplitr
  · isplitr; · iapply (inv_at m ρ K (c, sendIx 0)); iexact H
    iapply (inv_at m ρ K (c, sendIx 1)); iexact H
  isplitr
  · isplitr; · iapply (inv_at m ρ K (c, recvIx 0)); iexact H
    iapply (inv_at m ρ K (c, recvIx 1)); iexact H
  isplitr; · iapply (inv_at m ρ K (prv c, 0)); iexact H
  isplitr; · iapply (inv_at m ρ K (nxt c, 0)); iexact H
  isplitr; · iapply (inv_at m ρ K (prv c, 1)); iexact H
  isplitr; · iapply (inv_at m ρ K (nxt c, recvIx 0)); iexact H
  iapply (inv_at m ρ K (nxt c, recvIx 1)); iexact H

theorem marks_intro (K : Dev nD × Fin 6 → ℕ) (c : Dev nD) : records (F := F) m ρ K ⊢ marks (F := F) c 0 := by
  unfold marks
  iintro #H
  isplitr; · iapply (reached_at m ρ K (prv c, 1)); iexact H
  isplitr; · iapply (reached_at m ρ K (c, sendIx 0)); iexact H
  isplitr; · iapply (reached_at m ρ K (c, sendIx 1)); iexact H
  isplitr; · iapply (reached_at m ρ K (c, recvIx 1)); iexact H
  iapply (reached_at m ρ K (c, recvIx 0)); iexact H

theorem ghost_intro (K : Dev nD × Fin 6 → ℕ) (c : Dev nD) : iprop(records (F := F) m ρ K ∗ linear (F := F) c) ⊢ G' m ρ c := by
  unfold linear payToks G' ghost spots
  rw [sep_fin6]
  iintro ⟨#H, ⟨HB, HC, HS0, HS1, HR0, HR1⟩, ⟨HtN, HtP⟩, Ht⟩
  iexists K
  isplitr; · iapply (invs_intro m ρ K c); iexact H
  isplitl [HB]; · iexact HB
  isplitl [HC HS0 HS1 HR0 HR1]
  · isplitl [HC]; · iexact HC
    isplitl [HS0]; · iexact HS0
    isplitl [HS1]; · iexact HS1
    isplitl [HR1]; · iexact HR1
    iexact HR0
  isplitr; · iapply (reached_at m ρ K (prv c, 0)); iexact H
  isplitr; · iapply (reached_at m ρ K (nxt c, 0)); iexact H
  isplitr; · iapply (marks_intro m ρ K c); iexact H
  isplitl [HtP]; · iexact HtP
  isplitl [HtN]; · iexact HtN
  iexact Ht

/-- The tokens dealt around the ring: a barrier's `false` token to the device before, its `true` token to the device after,
    the credits' tokens to the device after, the arrivals' to the device before. -/
theorem toks_around : (bigSep Finset.univ fun c : Dev nD => (toks (F := F) c : sProp 𝕄)) ⊢ bigSep Finset.univ fun c : Dev nD => payToks (F := F) c := by
  unfold toks payToks hopOwn hopDuties
  simp only [bigSep_sep']
  rw [bigSep_univ_equiv around (fun c : Dev nD => (dutyTok ER (barCell c) 0 false : sProp 𝕄)),
    bigSep_univ_equiv around.symm (fun c : Dev nD => (dutyTok ER (barCell c) 0 true : sProp 𝕄)),
    bigSep_univ_equiv around.symm (fun c : Dev nD => (bigSep (Finset.Ico 0 62) fun u => dutyTok ER (credCell c) u false : sProp 𝕄)),
    bigSep_univ_equiv around (fun c : Dev nD => (bigSep (Finset.Ico 0 62) fun u => dutyTok ER (recvCell c (dst u)) (u / 2) false : sProp 𝕄))]
  iintro ⟨⟨H1, H2⟩, H3, H4, H5⟩
  isplitl [H1 H2]
  · isplitl [H1]; · iexact H1
    iexact H2
  isplitl [H3]; · iexact H3
  isplitl [H4]; · iexact H4
  iexact H5

theorem with_records {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (ringRd m ρ) κ (kcell (c, k))))
          ∗ (bigSep Finset.univ fun k => iprop(atPos ER (kcell (c, k)) 0 ∅ 0 ∗ reached ER (kcell (c, k)) 0)) ∗ toks (F := F) c) : sProp 𝕄)
      ⊢ bigSep Finset.univ (G' m ρ) := by
  rw [bigSep_sep', bigSep_sep', ← bigSep_univ_prod (fun ck : Dev nD × Fin 6 => iprop(∃ κ : ℕ, cellInv ER (ringRd m ρ) κ (kcell ck))),
    bigSep_congr (s := Finset.univ) (fun (c : Dev nD) _ => bigSep_sep' Finset.univ (fun k : Fin 6 => (atPos ER (kcell (c, k)) 0 ∅ 0 : sProp 𝕄)) (fun k => reached ER (kcell (c, k)) 0)),
    bigSep_sep', ← bigSep_univ_prod (fun ck : Dev nD × Fin 6 => (reached ER (kcell ck) 0 : sProp 𝕄))]
  iintro ⟨HI, ⟨Hat, #HR⟩, Htok⟩
  ihave HK := (BI.bigSep_exists_pi Finset.univ (fun (ck : Dev nD × Fin 6) (κ : ℕ) => (cellInv ER (ringRd m ρ) κ (kcell ck) : sProp 𝕄))) $$ HI
  icases HK with ⟨%K, #HI⟩
  ihave Htk := (toks_around (F := F)) $$ Htok
  iapply (with_records (R := records (F := F) m ρ K) fun c _ => ghost_intro m ρ K c)
  isplitr
  · unfold records; isplitl; · iexact HI
    iexact HR
  · unfold linear
    simp only [bigSep_sep']
    isplitl [Hat]; · iexact Hat
    iexact Htk

/-- The launch's step over all devices at once: invariants for every cell, and each device its share. -/
theorem glob : (bigSep Finset.univ fun c => iprop(Pipeline.ownSems0 (Ix := ℕ) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

theorem hop_cred (c : Dev nD) (u : ℕ) :
    (Pipeline.launchCred (fun d : Dev nD => tallyAt (recvCell (nxt d) (dst u)) u N + tallyAt (credCell (prv d)) u 1) c : sProp 𝕄)
      ⊢ hopCreds (F := F) c u := by
  unfold hopCreds
  rw [Pipeline.launchCred_add]
  iintro ⟨H1, H2⟩
  isplitl [H2]
  · iapply (Pipeline.launchCred_tallyAt (.reg credS) prv nxt prv_nxt nxt_prv u 1 c); iexact H2
  · iapply (Pipeline.launchCred_tallyAt (.dma (recvS (dst u))) nxt prv nxt_prv prv_nxt u N c); iexact H1

theorem creds (c : Dev nD) :
    (Pipeline.launchCred O₀ c : sProp 𝕄) ⊢ iprop(cred (tallyAt (barCell c) 0 2) ∗ bigSep (Finset.Ico 0 62) (hopCreds (F := F) c)) := by
  have h0 : (O₀ : Dev nD → CellTallies nD τ sig ℕ)
      = fun d => ((∑ u ∈ Finset.Ico 0 62, (tallyAt (recvCell (nxt d) (dst u)) u N + tallyAt (credCell (prv d)) u 1))
          + tallyAt (barCell (nxt d)) 0 1) + tallyAt (barCell (prv d)) 0 1 := rfl
  have h2 : (tallyAt (barCell c) 0 2 : CellTallies nD τ sig ℕ) = tallyAt (barCell c) 0 1 + tallyAt (barCell c) 0 1 := (tallyAt_add (barCell c) 0 1 1).symm
  rw [h0, Pipeline.launchCred_add, Pipeline.launchCred_add,
    Pipeline.launchCred_sum (Finset.Ico 0 62) (fun u (d : Dev nD) => tallyAt (recvCell (nxt d) (dst u)) u N + tallyAt (credCell (prv d)) u 1) c, h2]
  iintro ⟨⟨H, H1⟩, H2⟩
  isplitl [H1 H2]
  · iapply (cred_add _ _).2
    isplitl [H1]
    · iapply (Pipeline.launchCred_tallyAt (.reg barS) nxt prv nxt_prv prv_nxt 0 1 c); iexact H1
    · iapply (Pipeline.launchCred_tallyAt (.reg barS) prv nxt prv_nxt nxt_prv 0 1 c); iexact H2
  · iapply (show (bigSep (Finset.Ico 0 62) fun u => (Pipeline.launchCred (fun d : Dev nD => tallyAt (recvCell (nxt d) (dst u)) u N + tallyAt (credCell (prv d)) u 1) c : sProp 𝕄))
      ⊢ bigSep (Finset.Ico 0 62) (hopCreds (F := F) c) from bigSep_mono fun u _ => hop_cred (F := F) c u)
    iexact H

/-! ## The run -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, scopedRest0_eq, ownSems0_eq, unscopedSems0_eq]
  unfold Φ₁ scratch
  iintro ⟨Hr, Hz, HzB⟩
  isplitl [HzB]; · iexact HzB
  isplitl [Hz]; · iexact Hz
  iexact Hr

/-- Waiting on a staging buffer's cell is allowed at launch and at the end: it stands below everything owed. -/
theorem wait_stage (c : Dev nD) (q : DmaSem sig) (hq : ∀ k : Fin 2, q ≠ recvS k) (O : CellTallies nD τ sig ℕ) (hO : O = O₀ c ∨ O = 0) :
    (levAts L lv : sProp 𝕄) ⊢ MayWait (c : Thread nD τ) (.dma q) 0 O := by
  refine mayWait (F := F) c (.dma q) 0 (by decide) O fun g u hp => ?_
  rcases hO with rfl | rfl
  · rw [lv_low c q hq]
    unfold O₀ O₁ at hp
    rw [Pi.add_apply, Finsupp.add_apply, Pi.add_apply, Finsupp.add_apply] at hp
    by_cases h1 : 0 < owe c 0 g u
    · have := owe_level h1
      exact ⟨this.1, this.2.1, by omega⟩
    by_cases h2 : 0 < tallyAt (barCell (nxt c)) 0 1 g u
    · obtain ⟨rfl, rfl⟩ := Pipeline.tallyAt_pos h2
      exact ⟨rfl, by decide, by rw [lv_bar]; decide⟩
    have h3 : 0 < tallyAt (barCell (prv c)) 0 1 g u := by omega
    obtain ⟨rfl, rfl⟩ := Pipeline.tallyAt_pos h3
    exact ⟨rfl, by decide, by rw [lv_bar]; decide⟩
  · exact absurd hp (Nat.lt_irrefl 0)

theorem waits (c : Dev nD) : (levAts L lv : sProp 𝕄) ⊢ Pipeline.cellsWaits cfgs (dats m ρ) 0 0 c :=
  Pipeline.cellsWaits_intro cfgs (dats m ρ) 0 0 c fun w s t =>
    wait_stage c _ (by revert s; revert w; decide) _ (by
      rcases t with ⟨_ | _, ht⟩
      · exact Or.inl rfl
      · exact Or.inr rfl)

/-- The final contents of a window's array. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 65536 in
/-- From any memory with zero counters, for any float values: every weakly fair execution of all 32 devices terminates, with
    every array of every device at its computed contents and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdeal.Ring

end
-- ==== Proof.Frames.lean ====
/-
  The frame of the program as printed and of its idealization: both run to the end from any memory, their arguments
  unchanged and every semaphore counter back at zero. The run is proved once, at any float values.
-/
module

public import proofs.«01_k».proof.Defs
public import proofs.«01_k».proof.Proof.Launch
public import proofs.«01_k».proof.Proof.Gen.Kernel

@[expose] public section

noncomputable section

namespace Cert.KernelIdeal.Ring

open Cert.KernelIdeal Cert.KernelIdeal.Gen
open Idealize.ShloMosaic Idealize.ShloMosaic.TcCoe
open Idealize.SL.Sem

variable {F : FTy → Type} [FloatOps F]
variable (m : (ℓ : Loc nD τ sig) → Buf (Elt F) ℓ) (ρ : Dev nD → PrngReg)

theorem finalA_x (c : Dev nD) : finalA m ρ c 0 = m ((c : Thread nD τ).loc main_arg0) := (dats (F := F) m ρ 0 c).arrAt_in (0 : Fin 5) rfl _
theorem finalA_w (c : Dev nD) : finalA m ρ c 1 = m ((c : Thread nD τ).loc main_arg1) := (dats (F := F) m ρ 0 c).arrAt_in (1 : Fin 5) rfl _
theorem finalA_sx (c : Dev nD) : finalA m ρ c 2 = m ((c : Thread nD τ).loc main_arg2) := (dats (F := F) m ρ 0 c).arrAt_in (2 : Fin 5) rfl _
theorem finalA_sw (c : Dev nD) : finalA m ρ c 3 = m ((c : Thread nD τ).loc main_arg3) := (dats (F := F) m ρ 0 c).arrAt_in (3 : Fin 5) rfl _

/-- The run with the arguments named. -/
theorem run_args : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨(h.1 c 0).trans (finalA_x m ρ c), (h.1 c 1).trans (finalA_w m ρ c),
    (h.1 c 2).trans (finalA_sx m ρ c), (h.1 c 3).trans (finalA_sw m ρ c)⟩, h.2⟩) (run_main (F := F) m ρ)

theorem frame_ideal : Cert.quiescent_KernelIdeal := fun m ρ _ => run_args (F := Ideal) m ρ

/-! ## The printed program and its idealization are the same text -/

set_option maxRecDepth 65536 in
theorem same_body : Cert.Kernel.cc0_body (F := F) = Cert.KernelIdeal.cc0_body (F := F) := rfl

set_option maxRecDepth 65536 in
theorem same_table : Cert.Kernel.defs₀ (F := F) = Cert.KernelIdeal.defs₀ (F := F) := by
  unfold Cert.Kernel.defs₀ Cert.KernelIdeal.defs₀
  refine congrArg Defs.onTc (funext fun l => funext fun a => ?_)
  match l, a with
  | 0, (t, s) =>
    show Cert.Kernel.cc0_body (F := F) _ _ _ _ _ _ _ _ _ _ _ _ _ _ _ _ _ _ _
      = Cert.KernelIdeal.cc0_body (F := F) _ _ _ _ _ _ _ _ _ _ _ _ _ _ _ _ _ _ _
    rw [same_body]
  | ⟨_ + 1, h⟩, _ => exact absurd h (Nat.not_lt.2 (Nat.le_add_left _ _))

theorem same_defs : Cert.Kernel.defs (F := F) = Cert.KernelIdeal.defs (F := F) :=
  congrArg (Pipeline.defs Cert.KernelIdeal.pcfgs) same_table

theorem frame_kernel : Cert.quiescent_Kernel := fun m ρ _ => by
  have h := run_args (F := Bits) m ρ
  rw [← same_defs] at h
  exact h

end Cert.KernelIdeal.Ring

end
-- ==== Proof.RefValue.lean ====
/-
  The reference's result as one function of its arguments: the product of the two matrices, every entry times the product
  of the two scales. Its call has no grid, so each window is a whole array and the one store writes the whole result.
-/
module

public import proofs.«01_k».proof.Proof.Gen.ReferenceIdeal.Value
public import Idealize.ShloMosaic.Lib.MatmulPlain

@[expose] public section

noncomputable section

namespace Cert.ReferenceIdeal.Closed

open Cert.ReferenceIdeal Cert.ReferenceIdeal.Gen Cert.ReferenceIdeal.Value
open Idealize.ShloMosaic Idealize.ShloMosaic.TcCoe Idealize.SL.Sem

variable {F : FTy → Type} [FloatOps F]
variable (m : (ℓ : Loc nD τ sig) → Buf (Elt F) ℓ) (ρ : Dev nD → PrngReg)

/-- The one place of a scale. -/
def at0 : S1.Idx := fun a => match a with | ⟨0, _⟩ => ⟨0, Nat.one_pos⟩

theorem eq_at0 (i : S1.Idx) : i = at0 := by
  funext a; apply Fin.ext
  match a with
  | ⟨0, _⟩ =>
    have h : (i 0).val < 1 := (i 0).isLt
    show (i 0).val = 0
    omega

/-- The result from the arguments. -/
def result (x : Vec F S4096x4096 .fp8e5m2) (w : Vec F S4096x2048 .fp8e5m2) (sx sw : Vec F S1 .f32) : Vec F S4096x2048 .f32 :=
  k0_pay1 x w (sx at0) (sw at0)

theorem off_zero : (![0, 0] : Fin 2 → Nat) = fun _ => 0 := funext fun a => by fin_cases a <;> rfl

/-- The one store writes the whole result, from loads of the whole operands and of the two scales. -/
theorem stored (c : Dev nD) (arg0 : Memref sig .tc .vmem S4096x4096 .fp8e5m2) (h0 : arg0.IsWhole)
    (arg1 : Memref sig .tc .vmem S4096x2048 .fp8e5m2) (h1 : arg1.IsWhole) (arg2 : Memref sig .tc .smem S1 .f32) (h2 : arg2.IsWhole)
    (arg3 : Memref sig .tc .smem S1 .f32) (h3 : arg3.IsWhole) (arg4 : Memref sig .tc .vmem S4096x2048 .f32) (h4 : arg4.IsWhole)
    (x : Vec F S4096x4096 .fp8e5m2) (w : Vec F S4096x2048 .fp8e5m2) (sx sw : Vec F S1 .f32) :
    out0_A_4 c arg0 h0 arg1 h1 arg2 h2 arg3 h3 arg4 h4 x w sx sw = result x w sx sw := by
  unfold out0_A_4
  rw [View.read_writes_junk_eq_canon]
  show View.canon ([⟨Rect.unit ![0, 0] S4096x2048.size inb_S4096x2048_S4096x2048_0_0,
      k0_pay1
        (View.readAt (Elt F) arg0.view (Rect.unit ![0, 0] S4096x4096.size inb_S4096x4096_S4096x4096_0_0).toLoadRect (h0.unread x))
        (View.readAt (Elt F) arg1.view (Rect.unit ![0, 0] S4096x2048.size inb_S4096x2048_S4096x2048_0_0).toLoadRect (h1.unread w))
        (View.readAt (Elt F) arg2.view (Rect.unit (s := S1) ![0] S1.size inb_S1_S1_0).toLoadRect (h2.unread sx) _)
        (View.readAt (Elt F) arg3.view (Rect.unit (s := S1) ![0] S1.size inb_S1_S1_0).toLoadRect (h3.unread sw) _)⟩] :
      List (View.Piece (Elt F) S4096x2048 .f32)) = _
  rw [View.canon_unit_zero off_zero, View.readAt_eq_ld, View.readAt_eq_ld, View.readAt_eq_ld, View.readAt_eq_ld,
    h0.read_unread, h1.read_unread, h2.read_unread, h3.read_unread, View.ld_unit_zero off_zero, View.ld_unit_zero off_zero]
  exact congrArg₂ (k0_pay1 x w) (congrArg sx (eq_at0 _)) (congrArg sw (eq_at0 _))

/-! ## Each window's block is its array -/

theorem emb_x (t : Fin cfg0.N) (j : S4096x4096.Idx) : ((cfg0.win 0).blk t).view.emb j = j := by
  funext a; apply Fin.ext
  match a with
  | ⟨0, _⟩ => show 0 * 4096 + 1 * (j 0).val = (j 0).val; omega
  | ⟨1, _⟩ => show 0 * 4096 + 1 * (j 1).val = (j 1).val; omega

theorem emb_w (t : Fin cfg0.N) (j : S4096x2048.Idx) : ((cfg0.win 1).blk t).view.emb j = j := by
  funext a; apply Fin.ext
  match a with
  | ⟨0, _⟩ => show 0 * 4096 + 1 * (j 0).val = (j 0).val; omega
  | ⟨1, _⟩ => show 0 * 2048 + 1 * (j 1).val = (j 1).val; omega

theorem emb_out (t : Fin cfg0.N) (j : S4096x2048.Idx) : ((cfg0.win 4).blk t).view.emb j = j := by
  funext a; apply Fin.ext
  match a with
  | ⟨0, _⟩ => show 0 * 4096 + 1 * (j 0).val = (j 0).val; omega
  | ⟨1, _⟩ => show 0 * 2048 + 1 * (j 1).val = (j 1).val; omega

theorem iblk_x (c : Dev nD) (t : Fin cfg0.N) : iblk m c 0 t = V m c main_arg0 := by
  funext j; show V m c main_arg0 (((cfg0.win 0).blk t).view.emb j) = V m c main_arg0 j; rw [emb_x]
theorem iblk_w (c : Dev nD) (t : Fin cfg0.N) : iblk m c 1 t = V m c main_arg1 := by
  funext j; show V m c main_arg1 (((cfg0.win 1).blk t).view.emb j) = V m c main_arg1 j; rw [emb_w]
theorem iblk_sx (c : Dev nD) (t : Fin cfg0.N) : iblk m c 2 t = V m c main_arg2 := by
  funext j
  show V m c main_arg2 (((cfg0.win 2).blk t).view.emb j) = V m c main_arg2 j
  exact congrArg (V m c main_arg2) ((eq_at0 _).trans (eq_at0 j).symm)
theorem iblk_sw (c : Dev nD) (t : Fin cfg0.N) : iblk m c 3 t = V m c main_arg3 := by
  funext j
  show V m c main_arg3 (((cfg0.win 3).blk t).view.emb j) = V m c main_arg3 j
  exact congrArg (V m c main_arg3) ((eq_at0 _).trans (eq_at0 j).symm)

theorem flushed_result (c : Dev nD) (t : Fin cfg0.N) :
    (dats m 0 c).flushed 4 t = ((cfg0.win 4).blk t).view.read (Elt F)
      (result (V m c main_arg0) (V m c main_arg1) (V m c main_arg2) (V m c main_arg3)) := by
  rw [flushed4_A, stored, iblk_x, iblk_w, iblk_sx, iblk_sw]
  funext j
  show result (V m c main_arg0) (V m c main_arg1) (V m c main_arg2) (V m c main_arg3) j
    = result (V m c main_arg0) (V m c main_arg1) (V m c main_arg2) (V m c main_arg3) (((cfg0.win 4).blk t).view.emb j)
  rw [emb_out]

theorem covered_out (i : S4096x2048.Idx) : ∃ t : Fin cfg0.N, (cfg0.win 4).flush t = true ∧ i ∈ ((cfg0.win 4).blk t).view.set :=
  ⟨(⟨0, by decide⟩ : Fin cfg0.N), flush0_4 _, by
    have h := ((cfg0.win 4).blk (⟨0, by decide⟩ : Fin cfg0.N)).view.emb_mem_set i; rwa [emb_out] at h⟩

theorem final_out (c : Dev nD) : (dats m 0 c).arrAt 4 cfg0.N
    = result (m ((c : Thread nD τ).loc main_arg0)) (m ((c : Thread nD τ).loc main_arg1)) (m ((c : Thread nD τ).loc main_arg2))
        (m ((c : Thread nD τ).loc main_arg3)) :=
  ((dats m 0 c).arrAt_eq_of_cover 4 _ (fun t _ => flushed_result m c t) covered_out).trans
    (by rw [V_main_arg0, V_main_arg1, V_main_arg2, V_main_arg3])

/-- The reference runs, its result is `result` of its arguments, and they end unchanged. -/
theorem run : θ_run defs (onTc (τ := τ) (main (F := F))) ⟨m, fun _ => 0, ρ⟩ fun r => ∀ c : Dev nD,
      r.2.mem ((c : Thread nD τ).loc main_v0)
        = result (m ((c : Thread nD τ).loc main_arg0)) (m ((c : Thread nD τ).loc main_arg1)) (m ((c : Thread nD τ).loc main_arg2))
            (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final_out m c), (h c).2⟩) (run_blocks m ρ)

/-! ## An entry over the extended reals -/

open Idealize.ShloMosaic.ValueIdx
open scoped BigOperators

theorem dot_apply (X : FVec Ideal S4096x4096 .f32) (W : FVec Ideal S4096x2048 .f32) (r : Fin 4096) (l : Fin 2048) :
    matmul dot_S4096x4096_S4096x2048_S4096x2048_1_0_0_1_n_n none X W (constant S4096x2048 .f32 0x00000000#32) (ix2 r l)
      = ∑ k : Fin 4096, X (ix2 r k) * W (ix2 k l) := by
  refine (Ideal.matmul_plain_apply none X W (constant S4096x2048 .f32 0x00000000#32) r l).trans ?_
  rw [show constant (F := Ideal) S4096x2048 .f32 0x00000000#32 (ix2 r l) = (0 : EReal) from Ideal.ofBits_zero_f32, zero_add]

theorem result_apply (X : S4096x4096.Idx → EReal) (W : S4096x2048.Idx → EReal) (SX SW : S1.Idx → EReal) (r : Fin 4096) (l : Fin 2048) :
    result (F := Ideal) X W SX SW (ix2 r l) = (∑ k : Fin 4096, X (ix2 r k) * W (ix2 k l)) * (SX at0 * SW at0) := by
  rw [← dot_apply X W r l]
  unfold result k0_pay1
  rfl

end Cert.ReferenceIdeal.Closed

end
-- ==== Proof.Value.lean ====
/-
  What the kernel computes, over the extended reals: the sum over the ring of the devices' partial products is the product of
  the whole matrices, so every device's result is the reference's.
-/
module

public import proofs.«01_k».proof.Proof.Frames
public import proofs.«01_k».proof.Proof.RefValue

@[expose] public section

noncomputable section

namespace Cert.KernelIdeal.Ring

open Cert.KernelIdeal Cert.KernelIdeal.Gen
open Idealize.ShloMosaic Idealize.ShloMosaic.TcCoe Idealize.ShloMosaic.ValueIdx
open Idealize.SL.Sem
open scoped BigOperators

section AnyFloat

variable {F : FTy → Type} [FloatOps F]
variable (m : (ℓ : Loc nD τ sig) → Buf (Elt F) ℓ) (ρ : Dev nD → PrngReg)

/-! ## The result array is what the body left in its buffer -/

theorem emb_out (t : Fin cfg0.N) (j : S4096x2048.Idx) : ((cfg0.win 4).blk t).view.emb j = j := by
  funext a; apply Fin.ext
  match a with
  | ⟨0, _⟩ => show 0 * 4096 + 1 * (j 0).val = (j 0).val; omega
  | ⟨1, _⟩ => show 0 * 2048 + 1 * (j 1).val = (j 1).val; omega

theorem flushed_out (c : Dev nD) (t : Fin cfg0.N) :
    (dats m ρ 0 c).flushed 4 t = ((cfg0.win 4).blk t).view.read (Elt F) (outAt m ρ c) := by
  funext j
  show outAt m ρ c j = outAt m ρ c (((cfg0.win 4).blk t).view.emb j)
  rw [emb_out]

theorem covered_out (i : S4096x2048.Idx) : ∃ t : Fin cfg0.N, (cfg0.win 4).flush t = true ∧ i ∈ ((cfg0.win 4).blk t).view.set :=
  ⟨(⟨0, by decide⟩ : Fin cfg0.N), flush0_4 _, by
    have h := ((cfg0.win 4).blk (⟨0, by decide⟩ : Fin cfg0.N)).view.emb_mem_set i; rwa [emb_out] at h⟩

theorem finalA_out (c : Dev nD) : finalA m ρ c 4 = outAt m ρ c :=
  (dats m ρ 0 c).arrAt_eq_of_cover 4 (outAt m ρ c) (fun t _ => flushed_out m ρ c t) covered_out

/-! ## The staged operands are the arguments -/

theorem xstg_eq (c : Dev nD) : xstg m ρ c = m ((c : Thread nD τ).loc main_arg0) := by
  funext j
  show m ((c : Thread nD τ).loc main_arg0) ((win0_0.blk (0 : Fin 1)).view.emb j) = m ((c : Thread nD τ).loc main_arg0) j
  refine congrArg _ (funext fun a => Fin.ext ?_)
  match a with
  | ⟨0, _⟩ => show 0 * 4096 + 1 * (j 0).val = (j 0).val; omega
  | ⟨1, _⟩ => show 0 * 128 + 1 * (j 1).val = (j 1).val; omega

theorem wstg_eq (c : Dev nD) : wstg m ρ c = m ((c : Thread nD τ).loc main_arg1) := by
  funext j
  show m ((c : Thread nD τ).loc main_arg1) ((win0_1.blk (0 : Fin 1)).view.emb j) = m ((c : Thread nD τ).loc main_arg1) j
  refine congrArg _ (funext fun a => Fin.ext ?_)
  match a with
  | ⟨0, _⟩ => show 0 * 128 + 1 * (j 0).val = (j 0).val; omega
  | ⟨1, _⟩ => show 0 * 2048 + 1 * (j 1).val = (j 1).val; omega

theorem sxstg_at (c : Dev nD) (i : S1.Idx) : sxstg m ρ c i = m ((c : Thread nD τ).loc main_arg2) Cert.ReferenceIdeal.Closed.at0 :=
  congrArg (m ((c : Thread nD τ).loc main_arg2)) (Cert.ReferenceIdeal.Closed.eq_at0 _)
theorem swstg_at (c : Dev nD) (i : S1.Idx) : swstg m ρ c i = m ((c : Thread nD τ).loc main_arg3) Cert.ReferenceIdeal.Closed.at0 :=
  congrArg (m ((c : Thread nD τ).loc main_arg3)) (Cert.ReferenceIdeal.Closed.eq_at0 _)

/-- The product of the scales, of the arguments' entries. -/
theorem scl_eq (c : Dev nD) : scl m ρ c
    = k0_pay4 (F := F) (m ((c : Thread nD τ).loc main_arg2) Cert.ReferenceIdeal.Closed.at0)
        (m ((c : Thread nD τ).loc main_arg3) Cert.ReferenceIdeal.Closed.at0) :=
  congrArg₂ (k0_pay4 (F := F)) (sxstg_at m ρ c _) (swstg_at m ρ c _)

end AnyFloat

/-! ## A chunk over the extended reals -/

variable (m : (ℓ : Loc nD τ sig) → Buf (Elt Ideal) ℓ) (ρ : Dev nD → PrngReg)

/-- Device `d`'s operands. -/
def xOf (d : Dev nD) : S4096x128.Idx → EReal := m ((d : Thread nD τ).loc main_arg0)
def wOf (d : Dev nD) : S128x2048.Idx → EReal := m ((d : Thread nD τ).loc main_arg1)

/-- Widening changes no entry. -/
theorem xb_eq (c : Dev nD) : xb m ρ c = xOf m c := by
  unfold xb k0_pay2
  dsimp only
  rw [shapeCast_self, shapeCast_self, xstg_eq]
  rfl
theorem wb_eq (c : Dev nD) : wb m ρ c = wOf m c := by
  unfold wb k0_pay3
  dsimp only
  rw [shapeCast_self, shapeCast_self, wstg_eq]
  rfl

/-- Device `d`'s part of an entry of chunk `j`: its 128 products. -/
def part (j : ℕ) (d : Dev nD) (r : Fin 128) (l : Fin 2048) : EReal :=
  ∑ k : Fin 128, xOf m d (ix2 (⟨(128 * j + r.val) % 4096, Nat.mod_lt _ (by decide)⟩ : Fin 4096) k) * wOf m d (ix2 k l)

/-- The partial product of chunk `j`'s rows, entry by entry. -/
theorem own_part (c : Dev nD) (off : Fin 2 → ℕ) (inb : ∀ a, off a + S128x128.size a ≤ S4096x128.size a) (j : ℕ) (hj : j < 32)
    (hoff : off = ![128 * j, 0]) (r : Fin 128) (l : Fin 2048) :
    partialMul (rowsAt m ρ c off inb) (wb m ρ c) (ix2 r l) = part m j c r l := by
  subst hoff
  refine (Ideal.matmul_plain_apply none _ _ _ r l).trans ?_
  show Ideal.ofBits .f32 0x00000000#32 + _ = _
  rw [Ideal.ofBits_zero_f32, zero_add]
  refine Finset.sum_congr rfl fun k _ => congrArg₂ (· * ·) ?_ ?_
  · unfold rowsAt
    rw [xb_eq]
    refine congrArg (xOf m c) (funext fun a => Fin.ext ?_)
    have hr := r.isLt
    match a with
    | ⟨0, _⟩ => show 128 * j + 1 * r.val = (128 * j + r.val) % 4096; omega
    | ⟨1, _⟩ => show 0 + 1 * k.val = k.val; omega
  · exact congrFun (wb_eq m ρ c) _

/-- A number as a device. -/
def dev (n : ℕ) : Dev nD := ⟨n % 32, Nat.mod_lt _ (by decide)⟩

/-- Before hop `t` a chunk is the sum of the parts of the `t + 1` devices it has been on. -/
theorem chunk_sum (r : Fin 128) (l : Fin 2048) : ∀ (t : ℕ) (c : Dev nD), t ≤ 31 →
    chunk m ρ t c (ix2 r l) = ∑ s ∈ Finset.range (t + 1), part m ((c.val + 64 - t) % 32) (dev (c.val + 32 - s)) r l := by
  intro t
  induction t with
  | zero =>
    intro c _
    have hc : c.val < 32 := c.isLt
    rw [Finset.sum_range_one, show dev (c.val + 32 - 0) = c from Fin.ext (by simp only [dev]; omega)]
    exact own_part m ρ c _ _ _ (Nat.mod_lt _ (by decide)) ((k0_off1_eq c).trans (by rw [show (c.val + 64 - 0) % 32 = c.val by omega])) r l
  | succ t ih =>
    intro c ht
    have hc : c.val < 32 := c.isLt
    have hp : (prv c).val = (c.val + 31) % 32 := rfl
    rw [show chunk m ρ (t + 1) c = addf (chunk m ρ t (prv c))
        (partialMul (rowsAt m ρ c (k0_off2 c (BitVec.ofNat 32 (hopIx t).val)) (k0_off2_inb c (hopIx t))) (wb m ρ c)) from
      if_pos (show t < 31 by omega), Finset.sum_range_succ']
    refine congrArg₂ (· + ·) ((ih (prv c) (by omega)).trans (Finset.sum_congr rfl fun s hs => ?_)) ?_
    · have hs' := Finset.mem_range.mp hs
      rw [show ((prv c).val + 64 - t) % 32 = (c.val + 64 - (t + 1)) % 32 by omega,
        show dev ((prv c).val + 32 - s) = dev (c.val + 32 - (s + 1)) from Fin.ext (by simp only [dev]; omega)]
    · rw [show dev (c.val + 32 - 0) = c from Fin.ext (by simp only [dev]; omega)]
      exact own_part m ρ c _ _ _ (Nat.mod_lt _ (by decide)) ((k0_off2_eq c (hopIx t)).trans (by
        rw [show (c.val + 63 - (hopIx t).val) % 32 = (c.val + 64 - (t + 1)) % 32 by simp only [hopIx]; omega])) r l

/-- A complete chunk is the sum of all the devices' parts. -/
theorem complete_sum (j : ℕ) (hj : j < 32) (r : Fin 128) (l : Fin 2048) :
    chunk m ρ 31 (holder j) (ix2 r l) = ∑ d : Dev nD, part m j d r l := by
  have hv : (holder j).val = (j + 31) % 32 := rfl
  rw [chunk_sum m ρ r l 31 (holder j) le_rfl, Finset.sum_range, show ((holder j).val + 64 - 31) % 32 = j by omega]
  refine Fintype.sum_bijective (fun s : Fin 32 => dev ((holder j).val + 32 - s.val)) ?_ _ _ fun _ => rfl
  refine Function.Injective.bijective_of_finite fun a b h => Fin.ext ?_
  have hval : ((holder j).val + 32 - a.val) % 32 = ((holder j).val + 32 - b.val) % 32 := congrArg Fin.val h
  have := a.isLt; have := b.isLt
  omega

/-- A sum over 4096 places as a sum over 32 devices of 128 places each. -/
theorem sum_cut (f : Fin 4096 → EReal) :
    ∑ d : Fin 32, ∑ k : Fin 128, f ⟨d.val * 128 + k.val, by have := d.isLt; have := k.isLt; omega⟩ = ∑ k : Fin 4096, f k := by
  rw [← Fintype.sum_prod_type' (fun (d : Fin 32) (k : Fin 128) => f ⟨d.val * 128 + k.val, by have := d.isLt; have := k.isLt; omega⟩)]
  refine Fintype.sum_equiv (finProdFinEquiv (m := 32) (n := 128)) _ f fun p => congrArg f (Fin.ext ?_)
  show p.1.val * 128 + p.2.val = p.2.val + 128 * p.1.val
  omega

/-! ## The two programs agree -/

/-- An entry of the kernel's result. -/
theorem outAt_apply (c : Dev nD) (r : Fin 4096) (l : Fin 2048) :
    outAt m ρ c (ix2 r l) = (∑ d : Dev nD, part m (r.val / 128) d ⟨r.val % 128, Nat.mod_lt _ (by decide)⟩ l) * scl m ρ c := by
  rw [← complete_sum m ρ (r.val / 128) (by have := r.isLt; omega) ⟨r.val % 128, Nat.mod_lt _ (by decide)⟩ l,
    ← show Shape.pair (d := S128x2048.size) ⟨r.val % 128, Nat.mod_lt _ (by decide)⟩ l = ix2 ⟨r.val % 128, Nat.mod_lt _ (by decide)⟩ l from eq_ix2 _]
  rfl

/-- All the devices' parts of an entry make up the entry of the whole product. -/
theorem parts_sum (X : Cert.ReferenceIdeal.S4096x4096.Idx → EReal) (W : S4096x2048.Idx → EReal)
    (hx : ∀ c : Dev nD, xOf m c = Layout.block ⟨2, ![4096, 128]⟩ ⟨2, ![4096, 4096]⟩ 1 32 c X)
    (hw : ∀ c : Dev nD, wOf m c = Layout.block ⟨2, ![128, 2048]⟩ ⟨2, ![4096, 2048]⟩ 0 32 c W) (r : Fin 4096) (l : Fin 2048) :
    ∑ d : Dev nD, part m (r.val / 128) d ⟨r.val % 128, Nat.mod_lt _ (by decide)⟩ l = ∑ k : Fin 4096, X (ix2 r k) * W (ix2 k l) := by
  refine Eq.trans ?_ (sum_cut (fun k => X (ix2 r k) * W (ix2 k l)))
  refine Finset.sum_congr rfl fun d _ => Finset.sum_congr rfl fun k _ => ?_
  have hr := r.isLt
  rw [hx d, hw d, Layout.block_apply, Layout.block_apply]
  refine congrArg₂ (· * ·) (congrArg X (funext fun a => Fin.ext ?_)) (congrArg W (funext fun a => Fin.ext ?_))
  · match a with
    | ⟨0, _⟩ => show (128 * (r.val / 128) + r.val % 128) % 4096 = r.val; omega
    | ⟨1, _⟩ => rfl
  · match a with
    | ⟨0, _⟩ => rfl
    | ⟨1, _⟩ => rfl

theorem same_result (X : Cert.ReferenceIdeal.S4096x4096.Idx → EReal) (W : S4096x2048.Idx → EReal) (SX SW : S1.Idx → EReal)
    (hx : ∀ c : Dev nD, xOf m c = Layout.block ⟨2, ![4096, 128]⟩ ⟨2, ![4096, 4096]⟩ 1 32 c X)
    (hw : ∀ c : Dev nD, wOf m c = Layout.block ⟨2, ![128, 2048]⟩ ⟨2, ![4096, 2048]⟩ 0 32 c W)
    (hsx : ∀ c : Dev nD, m ((c : Thread nD τ).loc main_arg2) = SX) (hsw : ∀ c : Dev nD, m ((c : Thread nD τ).loc main_arg3) = SW)
    (c : Dev nD) : outAt m ρ c = Cert.ReferenceIdeal.Closed.result (F := Ideal) X W SX SW := by
  funext i
  rw [show i = ix2 (n0 := 4096) (n1 := 2048) (i 0) (i 1) from eq_ix2 i]
  refine (outAt_apply m ρ c (i 0) (i 1)).trans (Eq.trans ?_ (Cert.ReferenceIdeal.Closed.result_apply X W SX SW (i 0) (i 1)).symm)
  rw [parts_sum m X W hx hw (i 0) (i 1), scl_eq, hsx, hsw]
  rfl

theorem algebraic : Cert.algebraic_KernelIdeal_ReferenceIdeal := by
  intro m g m' g' _ hargs
  refine ⟨Cert.ReferenceIdeal.Closed.result (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1))
    (m' (((0 : Dev Cert.ReferenceIdeal.nD).tc : Thread Cert.ReferenceIdeal.nD Cert.ReferenceIdeal.τ).loc Cert.ReferenceIdeal.main_arg2))
    (m' (((0 : Dev Cert.ReferenceIdeal.nD).tc : Thread Cert.ReferenceIdeal.nD Cert.ReferenceIdeal.τ).loc Cert.ReferenceIdeal.main_arg3)), ?_, ?_⟩
  · refine (θ_run defs _ _).mono (fun r h c => ?_) (run_main (F := Ideal) m g)
    exact ⟨(h.1 c 4).trans ((finalA_out m g c).trans (same_result m g _ _ _ _ (fun c => (hargs c).1) (fun c => (hargs c).2.1)
        (fun c => (hargs c).2.2.1) (fun c => (hargs c).2.2.2) c)),
      (h.1 c 0).trans (finalA_x m g c), (h.1 c 1).trans (finalA_w m g c), (h.1 c 2).trans (finalA_sx m g c), (h.1 c 3).trans (finalA_sw m g c)⟩
  · exact (θ_run Cert.ReferenceIdeal.defs _ _).mono (fun r h => h 0) (Cert.ReferenceIdeal.Closed.run (F := Ideal) m' g')

end Cert.KernelIdeal.Ring

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.KernelIdeal.Ring.frame_kernel, Cert.KernelIdeal.Ring.frame_ideal, fun m ρ _ => Cert.ReferenceIdeal.Gen.frame m ρ, trivial,
  Cert.KernelIdeal.Ring.algebraic⟩

end Cert.Proof

end
